-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_unmasked [hPre_finite_unmasked : Cert.Pre_finite_unmasked.Facts] (m : (ℓ : Loc Cert.KernelIdeal.nD Cert.KernelIdeal.τ Cert.KernelIdeal.sig) → Buf (Elt Ideal) ℓ) : Prop :=
  ∀ c : Dev Cert.KernelIdeal.nD,
    (Cert.Pre_finite_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_unmasked [hPre_finite_unmasked : Cert.Pre_finite_unmasked.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_unmasked [hKernelIdeal : Cert.KernelIdeal.Facts] [hPre_finite_unmasked : Cert.Pre_finite_unmasked.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_unmasked m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_unmasked [hReferenceIdeal : Cert.ReferenceIdeal.Facts] [hPre_finite_unmasked : Cert.Pre_finite_unmasked.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_unmasked m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "scale" .f32 0x3E38AA3B#32 (((Real.log 2)⁻¹ * 8⁻¹ : ℝ) : EReal)
  ∧ IdealRules.named_const.Statement Cert.KernelIdeal.κ "mask" .f32 0xF149F2CA#32 ⊥

def algebraic_KernelIdeal_ReferenceIdeal_pre_finite_unmasked [hKernelIdeal : Cert.KernelIdeal.Facts] [hReferenceIdeal : Cert.ReferenceIdeal.Facts] [hPre_finite_unmasked : Cert.Pre_finite_unmasked.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_unmasked m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_unmasked : Cert.Pre_finite_unmasked.Facts),
    quiescent_Kernel (hKernel := hKernel)
    ∧ quiescent_KernelIdeal (hKernelIdeal := hKernelIdeal)
    ∧ quiescent_KernelIdeal_pre_finite_unmasked (hKernelIdeal := hKernelIdeal) (hPre_finite_unmasked := hPre_finite_unmasked)
    ∧ quiescent_ReferenceIdeal (hReferenceIdeal := hReferenceIdeal)
    ∧ quiescent_ReferenceIdeal_pre_finite_unmasked (hReferenceIdeal := hReferenceIdeal) (hPre_finite_unmasked := hPre_finite_unmasked)
    ∧ preserves_Kernel_KernelIdeal
    ∧ algebraic_KernelIdeal_ReferenceIdeal_pre_finite_unmasked (hKernelIdeal := hKernelIdeal) (hReferenceIdeal := hReferenceIdeal) (hPre_finite_unmasked := hPre_finite_unmasked)
-- ==== Pre_finite_unmasked.lean ====
abbrev S1x16x2048x64 : Shape := ⟨4, ![1, 16, 2048, 64]⟩
abbrev S1x1x2048x2048 : Shape := ⟨4, ![1, 1, 2048, 2048]⟩
abbrev S_ : Shape := ⟨0, ![]⟩

class Facts : Prop where
  bcast_S_S1x16x2048x64 : S_.BroadcastsInDim S1x16x2048x64 (![] : Fin 0 → Fin S1x16x2048x64.rank)
  reducesTo_S1x16x2048x64_S_d0_1_2_3 : S1x16x2048x64.ReducesTo [0, 1, 2, 3] S_
  h_S_ : 0 < S_.numel
  bcast_S_S1x1x2048x2048 : S_.BroadcastsInDim S1x1x2048x2048 (![] : Fin 0 → Fin S1x1x2048x2048.rank)
  reducesTo_S1x1x2048x2048_S_d0_1_2_3 : S1x1x2048x2048.ReducesTo [0, 1, 2, 3] S_

variable [Facts]

def fn {F : FTy → Type} [FloatOps F] (main_arg0 : FVec F S1x16x2048x64 .f32) (main_arg1 : FVec F S1x16x2048x64 .f32) (main_arg2 : FVec F S1x16x2048x64 .f32) (main_arg3 : FVec F S1x1x2048x2048 .f32) : IVec S_ 1 :=
  let main_v0 : FVec F S1x16x2048x64 .f32 := Host.absf main_arg0
  let main_cst : FVec F S_ .f32 := constant S_ .f32 0x7F800000#32
  let main_v1 : FVec F S1x16x2048x64 .f32 := broadcastInDim S1x16x2048x64 ![] bcast_S_S1x16x2048x64 main_cst
  let main_v2 : IVec S1x16x2048x64 1 := cmpf .olt main_v0 main_v1
  let main_c : IVec S_ 1 := constantI S_ 1 1#1
  let main_v3 : IVec S_ 1 := (fun x v => Host.reduce IntOp.andi x v reducesTo_S1x16x2048x64_S_d0_1_2_3 h_S_) main_v2 main_c
  let main_v4 : FVec F S1x16x2048x64 .f32 := Host.absf main_arg1
  let main_cst_0 : FVec F S_ .f32 := constant S_ .f32 0x7F800000#32
  let main_v5 : FVec F S1x16x2048x64 .f32 := broadcastInDim S1x16x2048x64 ![] bcast_S_S1x16x2048x64 main_cst_0
  let main_v6 : IVec S1x16x2048x64 1 := cmpf .olt main_v4 main_v5
  let main_c_1 : IVec S_ 1 := constantI S_ 1 1#1
  let main_v7 : IVec S_ 1 := (fun x v => Host.reduce IntOp.andi x v reducesTo_S1x16x2048x64_S_d0_1_2_3 h_S_) main_v6 main_c_1
  let main_v8 : IVec S_ 1 := andi main_v3 main_v7
  let main_cst_2 : FVec F S_ .f32 := constant S_ .f32 0x3F800000#32
  let main_v9 : FVec F S1x1x2048x2048 .f32 := broadcastInDim S1x1x2048x2048 ![] bcast_S_S1x1x2048x2048 main_cst_2
  let main_v10 : IVec S1x1x2048x2048 1 := cmpf .oge main_arg3 main_v9
  let main_c_3 : IVec S_ 1 := constantI S_ 1 1#1
  let main_v11 : IVec S_ 1 := (fun x v => Host.reduce IntOp.andi x v reducesTo_S1x1x2048x2048_S_d0_1_2_3 h_S_) main_v10 main_c_3
  let main_v12 : IVec S_ 1 := andi main_v8 main_v11
  main_v12
-- ==== Kernel.lean ====
abbrev S1x16x2048x64 : Shape := ⟨4, ![1, 16, 2048, 64]⟩
abbrev S1x1x2048x2048 : Shape := ⟨4, ![1, 1, 2048, 2048]⟩
abbrev S31x192x1 : Shape := ⟨3, ![31, 192, 1]⟩
abbrev S1x2048x1024 : Shape := ⟨3, ![1, 2048, 1024]⟩
abbrev S1x2x2048x64 : Shape := ⟨4, ![1, 2, 2048, 64]⟩
abbrev S1x2048x128 : Shape := ⟨3, ![1, 2048, 128]⟩
abbrev S1x1x2048x64 : Shape := ⟨4, ![1, 1, 2048, 64]⟩
abbrev S2048x64 : Shape := ⟨2, ![2048, 64]⟩
abbrev S2048x128 : Shape := ⟨2, ![2048, 128]⟩
abbrev S32x64x64 : Shape := ⟨3, ![32, 64, 64]⟩
abbrev S32x64x128 : Shape := ⟨3, ![32, 64, 128]⟩
abbrev S64x64 : Shape := ⟨2, ![64, 64]⟩
abbrev S64 : Shape := ⟨1, ![64]⟩
abbrev S1x64 : Shape := ⟨2, ![1, 64]⟩
abbrev S64x128 : Shape := ⟨2, ![64, 128]⟩
abbrev S64x1 : Shape := ⟨2, ![64, 1]⟩
abbrev S1984x64 : Shape := ⟨2, ![1984, 64]⟩
abbrev S31x64x64 : Shape := ⟨3, ![31, 64, 64]⟩
abbrev S30x64x64 : Shape := ⟨3, ![30, 64, 64]⟩
abbrev S1x64x64 : Shape := ⟨3, ![1, 64, 64]⟩
abbrev S5952x64 : Shape := ⟨2, ![5952, 64]⟩
abbrev S31x192x64 : Shape := ⟨3, ![31, 192, 64]⟩
abbrev S1x64x128 : Shape := ⟨3, ![1, 64, 128]⟩
abbrev S5952x128 : Shape := ⟨2, ![5952, 128]⟩
abbrev S31x192x128 : Shape := ⟨3, ![31, 192, 128]⟩
abbrev S2x64x64 : Shape := ⟨3, ![2, 64, 64]⟩
abbrev S128x64 : Shape := ⟨2, ![128, 64]⟩
abbrev S128x128 : Shape := ⟨2, ![128, 128]⟩
abbrev S2x64x128 : Shape := ⟨3, ![2, 64, 128]⟩
abbrev S1x1x64 : Shape := ⟨3, ![1, 1, 64]⟩
abbrev S31x64 : Shape := ⟨2, ![31, 64]⟩
abbrev S31x1x64 : Shape := ⟨3, ![31, 1, 64]⟩
abbrev S30x64 : Shape := ⟨2, ![30, 64]⟩
abbrev S30x1x64 : Shape := ⟨3, ![30, 1, 64]⟩
abbrev S2x64 : Shape := ⟨2, ![2, 64]⟩
abbrev S2x1x64 : Shape := ⟨3, ![2, 1, 64]⟩
abbrev S10x1x64 : Shape := ⟨3, ![10, 1, 64]⟩
abbrev S16x1x64 : Shape := ⟨3, ![16, 1, 64]⟩
abbrev S3x1x64 : Shape := ⟨3, ![3, 1, 64]⟩
abbrev S31x64x128 : Shape := ⟨3, ![31, 64, 128]⟩
abbrev S30x64x128 : Shape := ⟨3, ![30, 64, 128]⟩
abbrev S10x64x128 : Shape := ⟨3, ![10, 64, 128]⟩
abbrev S16x64x128 : Shape := ⟨3, ![16, 64, 128]⟩
abbrev S3x64x128 : Shape := ⟨3, ![3, 64, 128]⟩
abbrev S31x64x1 : Shape := ⟨3, ![31, 64, 1]⟩

abbrev nBuf : Space → Nat
  | .hbm => 6
  | .vmem => 9
  | .smem => 0
  | _ => 0

abbrev bufTy : (tb : Table) → Fin (tcTables nBuf tb) → BufTy
  | .hbm, ⟨0, _⟩ => ⟨S1x16x2048x64, .f32⟩
  | .hbm, ⟨1, _⟩ => ⟨S1x16x2048x64, .f32⟩
  | .hbm, ⟨2, _⟩ => ⟨S1x16x2048x64, .f32⟩
  | .hbm, ⟨3, _⟩ => ⟨S1x1x2048x2048, .f32⟩
  | .hbm, ⟨4, _⟩ => ⟨S31x192x1, .f32⟩
  | .hbm, ⟨5, _⟩ => ⟨S1x2048x1024, .f32⟩
  | .local _ .vmem, ⟨0, _⟩ => ⟨S1x2x2048x64, .f32⟩
  | .local _ .vmem, ⟨1, _⟩ => ⟨S1x2x2048x64, .f32⟩
  | .local _ .vmem, ⟨2, _⟩ => ⟨S1x2x2048x64, .f32⟩
  | .local _ .vmem, ⟨3, _⟩ => ⟨S1x2x2048x64, .f32⟩
  | .local _ .vmem, ⟨4, _⟩ => ⟨S1x2x2048x64, .f32⟩
  | .local _ .vmem, ⟨5, _⟩ => ⟨S1x2x2048x64, .f32⟩
  | .local _ .vmem, ⟨6, _⟩ => ⟨S31x192x1, .f32⟩
  | .local _ .vmem, ⟨7, _⟩ => ⟨S1x2048x128, .f32⟩
  | .local _ .vmem, ⟨8, _⟩ => ⟨S1x2048x128, .f32⟩
  | _, _ => ⟨S1x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S1x2x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S31x192x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F] [Named F]
def κ : String → Option EReal := fun
  | "mask" => some ⊥
  | "scale" => some (((Real.log 2)⁻¹ * 8⁻¹ : ℝ) : EReal)
  | _ => none
-- ==== ReferenceIdeal.lean ====
abbrev S1x16x2048x64 : Shape := ⟨4, ![1, 16, 2048, 64]⟩
abbrev S1x1x2048x2048 : Shape := ⟨4, ![1, 1, 2048, 2048]⟩
abbrev S32x32 : Shape := ⟨2, ![32, 32]⟩
abbrev S32x64x32 : Shape := ⟨3, ![32, 64, 32]⟩
abbrev S2048x32 : Shape := ⟨2, ![2048, 32]⟩
abbrev S2048x32x64 : Shape := ⟨3, ![2048, 32, 64]⟩
abbrev S2048x2048 : Shape := ⟨2, ![2048, 2048]⟩
abbrev S1x16x2048x2048 : Shape := ⟨4, ![1, 16, 2048, 2048]⟩
abbrev S_ : Shape := ⟨0, ![]⟩
abbrev S1x16x2048 : Shape := ⟨3, ![1, 16, 2048]⟩
abbrev S1x16x2048x1 : Shape := ⟨4, ![1, 16, 2048, 1]⟩
abbrev S1x16x64x2048 : Shape := ⟨4, ![1, 16, 64, 2048]⟩
abbrev S1x2048x16x64 : Shape := ⟨4, ![1, 2048, 16, 64]⟩
abbrev S1x2048x1024 : Shape := ⟨3, ![1, 2048, 1024]⟩

abbrev nBuf : Space → Nat
  | .hbm => 43
  | .vmem => 0
  | .smem => 0
  | _ => 0

abbrev bufTy : (tb : Table) → Fin (tcTables nBuf tb) → BufTy
  | .hbm, ⟨0, _⟩ => ⟨S1x16x2048x64, .f32⟩
  | .hbm, ⟨1, _⟩ => ⟨S1x16x2048x64, .f32⟩
  | .hbm, ⟨2, _⟩ => ⟨S1x16x2048x64, .f32⟩
  | .hbm, ⟨3, _⟩ => ⟨S1x1x2048x2048, .f32⟩
  | .hbm, ⟨4, _⟩ => ⟨S32x32, .f32⟩
  | .hbm, ⟨5, _⟩ => ⟨S32x64x32, .f32⟩
  | .hbm, ⟨6, _⟩ => ⟨S2048x32, .f32⟩
  | .hbm, ⟨7, _⟩ => ⟨S2048x32x64, .f32⟩
  | .hbm, ⟨8, _⟩ => ⟨S2048x2048, .f32⟩
  | .hbm, ⟨9, _⟩ => ⟨S1x1x2048x2048, .f32⟩
  | .hbm, ⟨10, _⟩ => ⟨S1x1x2048x2048, .f32⟩
  | .hbm, ⟨11, _⟩ => ⟨S1x16x2048x2048, .f32⟩
  | .hbm, ⟨12, _⟩ => ⟨S_, .f32⟩
  | .hbm, ⟨13, _⟩ => ⟨S_, .f32⟩
  | .hbm, ⟨14, _⟩ => ⟨S1x16x2048x2048, .f32⟩
  | .hbm, ⟨15, _⟩ => ⟨S1x16x2048x2048, .f32⟩
  | .hbm, ⟨16, _⟩ => ⟨S_, .f32⟩
  | .hbm, ⟨17, _⟩ => ⟨S1x1x2048x2048, .f32⟩
  | .hbm, ⟨18, _⟩ => ⟨S1x1x2048x2048, .i1⟩
  | .hbm, ⟨19, _⟩ => ⟨S_, .f32⟩
  | .hbm, ⟨20, _⟩ => ⟨S1x1x2048x2048, .f32⟩
  | .hbm, ⟨21, _⟩ => ⟨S_, .f32⟩
  | .hbm, ⟨22, _⟩ => ⟨S1x1x2048x2048, .f32⟩
  | .hbm, ⟨23, _⟩ => ⟨S1x1x2048x2048, .f32⟩
  | .hbm, ⟨24, _⟩ => ⟨S1x16x2048x2048, .f32⟩
  | .hbm, ⟨25, _⟩ => ⟨S1x16x2048x2048, .f32⟩
  | .hbm, ⟨26, _⟩ => ⟨S_, .f32⟩
  | .hbm, ⟨27, _⟩ => ⟨S1x16x2048, .f32⟩
  | .hbm, ⟨28, _⟩ => ⟨S_, .f32⟩
  | .hbm, ⟨29, _⟩ => ⟨S1x16x2048, .f32⟩
  | .hbm, ⟨30, _⟩ => ⟨S1x16x2048, .f32⟩
  | .hbm, ⟨31, _⟩ => ⟨S1x16x2048x1, .f32⟩
  | .hbm, ⟨32, _⟩ => ⟨S1x16x2048x2048, .f32⟩
  | .hbm, ⟨33, _⟩ => ⟨S1x16x2048x2048, .f32⟩
  | .hbm, ⟨34, _⟩ => ⟨S1x16x2048x2048, .f32⟩
  | .hbm, ⟨35, _⟩ => ⟨S_, .f32⟩
  | .hbm, ⟨36, _⟩ => ⟨S1x16x2048, .f32⟩
  | .hbm, ⟨37, _⟩ => ⟨S1x16x2048x1, .f32⟩
  | .hbm, ⟨38, _⟩ => ⟨S1x16x2048x2048, .f32⟩
  | .hbm, ⟨39, _⟩ => ⟨S1x16x2048x2048, .f32⟩
  | .hbm, ⟨40, _⟩ => ⟨S1x16x64x2048, .f32⟩
  | .hbm, ⟨41, _⟩ => ⟨S1x2048x16x64, .f32⟩
  | .hbm, ⟨42, _⟩ => ⟨S1x2048x1024, .f32⟩
  | _, _ => ⟨S1x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== Proof.Frames.lean ====
/- The claims without a value: each program runs, leaves its arguments as they were and ends with every semaphore
   counter at zero; and the two literals of the kernel that the idealized program reads by name have the values the
   table gives them. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent

@[expose] public section

noncomputable section

open Idealize.ShloMosaic Idealize.ShloMosaic.TcCoe Idealize.SL.Sem

namespace Cert.Proof

/-- The kernel, on bit patterns, runs and leaves its arguments unchanged. -/
theorem frame_kernel : Cert.quiescent_Kernel := fun m ρ _ => Cert.Kernel.Gen.frame m ρ

/-- The idealized kernel runs and leaves its arguments unchanged. -/
theorem frame_kernelIdeal : Cert.quiescent_KernelIdeal := fun m ρ _ => Cert.KernelIdeal.Gen.frame m ρ

/-- The reference runs and leaves its arguments unchanged; it has no semaphore, so none is left raised. -/
theorem frame_referenceIdeal : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The two named literals: the score scale is `(log 2)⁻¹ · 8⁻¹`, the mask value is `−∞`. -/
theorem preserves : Cert.preserves_Kernel_KernelIdeal :=
  ⟨IdealRules.named_const.statement Cert.KernelIdeal.κ "scale" .f32 0x3E38AA3B#32
      (((Real.log 2)⁻¹ * 8⁻¹ : ℝ) : EReal) rfl,
    IdealRules.named_const.statement Cert.KernelIdeal.κ "mask" .f32 0xF149F2CA#32 ⊥ rfl⟩

end Cert.Proof

end
-- ==== Proof.Payloads.lean ====
/- The values of the kernel's body for one head, each read at an index. -/
module

public import proofs.«01_k».proof.Proof.Gen.KernelIdeal.Frame
public import Idealize.ShloMosaic.Lib.Pointwise
public import Idealize.ShloMosaic.Lib.Pipeline.Value

@[expose] public section

set_option maxRecDepth 16384

noncomputable section

namespace Cert.Head

open Idealize.ShloMosaic Cert.KernelIdeal Cert.KernelIdeal.Gen

/-- The scale's value. -/
def scale : EReal := (((Real.log 2)⁻¹ * 8⁻¹ : ℝ) : EReal)

/-- The name `scale` is its value. -/
theorem scale_eq : Named.named (F := Ideal) Cert.KernelIdeal.κ "scale" (φ := .f32) 0x3E38AA3B#32 = scale :=
  IdealRules.named_const.ideal_named_scalar _ _ _ _ rfl

/-- The name `mask` is −∞. -/
theorem mask_eq : Named.named (F := Ideal) Cert.KernelIdeal.κ "mask" (φ := .f32) 0xF149F2CA#32 = ⊥ :=
  IdealRules.named_const.ideal_named_scalar _ _ _ _ rfl

/-- The word of −∞. -/
theorem neg_inf_eq : Ideal.ofBits .f32 0xFF800000#32 = ⊥ := by
  simp [Ideal.ofBits, Ideal.ieee]

/-- A slice of one head, as the body loads it. -/
abbrev Slice := Vec Ideal S1x1x2048x64 .f32

/-- Row `t` of block `b`. -/
def row (b : Fin 32) (t : Fin 64) : Fin 2048 := ⟨64 * b.val + t.val, by omega⟩

/-- The kernel's score of query row `R` against key row `T`: the scale folded into the query. -/
def sc (q k : Slice) (R T : Fin 2048) : EReal := ∑ d : Fin 64, k (ix4 0 0 T d) * (q (ix4 0 0 R d) * scale)

/-- Column `c` of the values with the column of ones beside them. -/
def vcol (v : Slice) (T : Fin 2048) (c : Fin 128) : EReal :=
  if h : c.val < 64 then v (ix4 0 0 T ⟨c.val, h⟩) else if c.val = 64 then 1 else 0

/-- The scaled queries. -/
theorem pay2_at (q : Slice) (r : Fin 2048) (d : Fin 64) : k0_pay2 q (ix2 r d) = q (ix4 0 0 r d) * scale := by
  pointwise [k0_pay2, scale_eq]

/-- The keys. -/
theorem pay3_at (k : Slice) (r : Fin 2048) (d : Fin 64) : k0_pay3 k (ix2 r d) = k (ix4 0 0 r d) := by
  pointwise [k0_pay3]

/-- The values with the column of ones beside them. -/
theorem pay4_at (v : Slice) (r : Fin 2048) (c : Fin 128) : k0_pay4 v (ix2 r c) = vcol v r c := by
  pointwise [k0_pay4, vcol]
  split
  · rfl
  · rename_i h
    have hc : IntOp.cmpi CmpIPredicate.eq (BitVec.ofNat 32 (c.val - 64)) 0#32 = if c.val = 64 then 1#1 else 0#1 := by
      have : ∀ c : Fin 128, ¬ c.val < 64 → IntOp.cmpi CmpIPredicate.eq (BitVec.ofNat 32 (c.val - 64)) 0#32 = if c.val = 64 then 1#1 else 0#1 := by
        decide
      exact this c h
    rw [hc]
    split <;> rfl

/-- The keys, in 32 blocks of 64 rows. -/
theorem pay5_at (k : Slice) (b : Fin 32) (t d : Fin 64) : k0_pay5 k (ix3 b t d) = k (ix4 0 0 (row b t) d) := by
  pointwise [k0_pay5, pay3_at]
  congr 2; exact Fin.ext (by simp only [row]; omega)

/-- The values with the column of ones, in 32 blocks of 64 rows. -/
theorem pay6_at (v : Slice) (b : Fin 32) (t : Fin 64) (c : Fin 128) : k0_pay6 v (ix3 b t c) = vcol v (row b t) c := by
  pointwise [k0_pay6, pay4_at]
  congr 1; exact Fin.ext (by simp only [row]; omega)

/-- The queries of the blocks 1 … 31. -/
theorem pay8_at (q : Slice) (j : Fin 31) (r d : Fin 64) :
    k0_pay8 q (ix3 j r d) = q (ix4 0 0 (row j.succ r) d) * scale := by
  pointwise [k0_pay8, pay2_at]
  congr 3; exact Fin.ext (by simp only [row, Fin.val_succ]; omega)

/-- The keys of the blocks 1 … 31. -/
theorem pay9_at (k : Slice) (j : Fin 31) (t d : Fin 64) : k0_pay9 k (ix3 j t d) = k (ix4 0 0 (row j.succ t) d) := by
  pointwise [k0_pay9, pay5_at]
  congr 3; exact Fin.ext (by simp only [Fin.val_succ]; omega)

/-- The scores of each block of queries against its own block of keys. -/
theorem pay10_at (q k : Slice) (j : Fin 31) (t r : Fin 64) :
    k0_pay10 (k0_pay8 q) (k0_pay9 k) (constant S31x64x64 .f32 0x00000000#32) (ix3 j t r) = sc q k (row j.succ r) (row j.succ t) := by
  pointwise [k0_pay10, pay8_at, pay9_at, sc]

/-- The scores against the block before, from the second block of queries on. -/
theorem pay11_at (q k : Slice) (j : Fin 30) (t r : Fin 64) :
    k0_pay11 (k0_pay5 k) (k0_pay8 q) (ix3 j t r) = sc q k (row j.succ.succ r) (row j.succ.castSucc t) := by
  have h : (⟨1 + j.val, by omega⟩ : Fin 31) = j.succ := Fin.ext (by simp only [Fin.val_succ]; omega)
  have h' : (⟨1 + j.val, by omega⟩ : Fin 32) = j.succ.castSucc := Fin.ext (by simp only [Fin.val_succ, Fin.val_castSucc]; omega)
  pointwise [k0_pay11, pay8_at, pay5_at, sc, h, h']

/-- The scores against the block after, up to the last block of queries but one. -/
theorem pay12_at (q k : Slice) (j : Fin 30) (t r : Fin 64) :
    k0_pay12 (k0_pay5 k) (k0_pay8 q) (ix3 j t r) = sc q k (row j.castSucc.succ r) (row j.succ.succ t) := by
  have h' : (⟨2 + j.val, by omega⟩ : Fin 32) = j.succ.succ := Fin.ext (by simp only [Fin.val_succ]; omega)
  have h : (⟨j.val, by omega⟩ : Fin 31) = j.castSucc := rfl
  pointwise [k0_pay12, pay8_at, pay5_at, sc, h, h']

/-- The block of queries of the extra scores. -/
def xrow (s : Fin 2) : Fin 31 := if s.val = 0 then 10 else 27

/-- Their block of keys. -/
def xcol (s : Fin 2) : Fin 32 := if s.val = 0 then 29 else 16

/-- The extra scores, of two blocks of queries that look at one block more than the table holds. -/
theorem pay189_at (q k : Slice) (s : Fin 2) (t r : Fin 64) :
    k0_pay189 (k0_pay5 k) (k0_pay8 q) (ix3 s t r) = sc q k (row (xrow s).succ r) (row (xcol s) t) := by
  match s with
  | 0 => pointwise [k0_pay189, pay8_at, pay5_at, sc, xrow, xcol]
  | 1 => pointwise [k0_pay189, pay8_at, pay5_at, sc, xrow, xcol]

/-- Their values. -/
theorem pay188_at (v : Slice) (s : Fin 2) (t : Fin 64) (c : Fin 128) :
    k0_pay188 (k0_pay6 v) (ix3 s t c) = vcol v (row (xcol s) t) c := by
  match s with
  | 0 => pointwise [k0_pay188, pay6_at, xcol]
  | 1 => pointwise [k0_pay188, pay6_at, xcol]

/-- The scores against gathered keys `kr`, the marked ones put to −∞. -/
theorem pay187_at (q : Slice) (kr : FVec Ideal S31x192x64 .bf16) (x : Vec Ideal S31x192x1 .f32) (j : Fin 31) (u : Fin 192) (r : Fin 64) :
    k0_pay187 (k0_pay8 q) kr x (ix3 j u r)
      = (∑ d : Fin 64, kr (ix3 j u d) * (q (ix4 0 0 (row j.succ r) d) * scale)) + x (ix3 j u 0) * ⊥ := by
  pointwise [k0_pay187, pay8_at, mask_eq]

/-- The pad of the maxima is −∞. -/
theorem pay190_at (r : Fin 64) : k0_pay190 (F := Ideal) (ix3 0 0 r) = ⊥ := by
  pointwise [k0_pay190, mask_eq]

theorem pay191_at (s : FVec Ideal S31x64x64 .f32) (j : Fin 31) (r : Fin 64) :
    k0_pay191 s (ix3 j 0 r) = Finset.univ.fold max ⊥ fun t : Fin 64 => s (ix3 j t r) := by
  pointwise [k0_pay191, neg_inf_eq]

theorem pay192_at (s : FVec Ideal S30x64x64 .f32) (j : Fin 30) (r : Fin 64) :
    k0_pay192 s (ix2 j r) = Finset.univ.fold max ⊥ fun t : Fin 64 => s (ix3 j t r) := by
  pointwise [k0_pay192, neg_inf_eq]

/-- A choice between numbers below `+∞` is below `+∞`. -/
theorem dite_lt_top {p : Prop} [Decidable p] {a : p → EReal} {b : ¬p → EReal} (ha : ∀ h, a h < ⊤) (hb : ∀ h, b h < ⊤) :
    dite p a b < ⊤ := by
  split
  · exact ha _
  · exact hb _

section Maxima

variable (v44 : FVec Ideal S30x64x64 .f32) (v426 : FVec Ideal S31x192x64 .f32) (v442 : FVec Ideal S2x64x64 .f32)
  (v443 : FVec Ideal S1x1x64 .f32) (v445 : FVec Ideal S31x1x64 .f32) (v446 : FVec Ideal S30x64 .f32)

/-- The subtracted maximum is not `+∞` where no score is. -/
theorem pay193_lt_top (h44 : ∀ j t r, v44 (ix3 j t r) < ⊤) (h426 : ∀ j t r, v426 (ix3 j t r) < ⊤) (h442 : ∀ j t r, v442 (ix3 j t r) < ⊤)
    (h443 : ∀ r, v443 (ix3 0 0 r) < ⊤) (h445 : ∀ j r, v445 (ix3 j 0 r) < ⊤) (h446 : ∀ j r, v446 (ix2 j r) < ⊤) (j : Fin 31) (r : Fin 64) :
    k0_pay193 v44 v426 v442 v443 v445 v446 (ix3 j 0 r) < ⊤ := by
  have h443' : ∀ (i : Fin 1) r, v443 (ix3 i 0 r) < ⊤ := fun i r => by rw [Subsingleton.elim i 0]; exact h443 r
  pointwise [k0_pay193, neg_inf_eq]
  with_reducible
    repeat' first
      | refine max_lt ?_ ?_
      | refine dite_lt_top (fun _ => ?_) (fun _ => ?_)
      | refine (Finset.fold_max_lt ⊤).mpr ⟨bot_lt_top, fun _ _ => ?_⟩
      | exact h44 _ _ _ | exact h426 _ _ _ | exact h442 _ _ _ | exact h443' _ _ | exact h445 _ _ | exact h446 _ _

/-- It is above `−∞` where the maximum over the own block is. -/
theorem bot_lt_pay193 (h445 : ∀ j r, ⊥ < v445 (ix3 j 0 r)) (j : Fin 31) (r : Fin 64) :
    ⊥ < k0_pay193 v44 v426 v442 v443 v445 v446 (ix3 j 0 r) := by
  pointwise [k0_pay193, neg_inf_eq]
  split_ifs <;> simp only [lt_max_iff, h445, true_or]

variable (v19 : FVec Ideal S32x64x128 .bf16)

/-- The extra weights. -/
theorem pay194_at (s : Fin 2) (t r : Fin 64) : k0_pay194 v44 v426 v442 v443 v445 v446 (ix3 s t r)
    = Ideal.exp2 (v442 (ix3 s t r) - k0_pay193 v44 v426 v442 v443 v445 v446 (ix3 (xrow s) 0 r)) := by
  match s with
  | 0 => pointwise [k0_pay194, xrow]; rfl
  | 1 => pointwise [k0_pay194, xrow]; rfl

theorem pay195_at (v38 : FVec Ideal S31x64x64 .f32) (j : Fin 31) (r : Fin 64) (c : Fin 128) :
    k0_pay195 v19 v38 v44 v426 v442 v443 v445 v446 (ix3 j r c) = ∑ t : Fin 64,
      Ideal.exp2 (v38 (ix3 j t r) - k0_pay193 v44 v426 v442 v443 v445 v446 (ix3 j 0 r)) * v19 (ix3 j.succ t c) := by
  have h : (⟨1 + j.val, by omega⟩ : Fin 32) = j.succ := Fin.ext (by simp only [Fin.val_succ]; omega)
  pointwise [k0_pay195, h]
  rfl

theorem pay196_at (v41 : FVec Ideal S30x64x64 .f32) (j : Fin 30) (r : Fin 64) (c : Fin 128) :
    k0_pay196 v19 v41 v44 v426 v442 v443 v445 v446 (ix3 j r c) = ∑ t : Fin 64,
      Ideal.exp2 (v41 (ix3 j t r) - k0_pay193 v44 v426 v442 v443 v445 v446 (ix3 j.succ 0 r)) * v19 (ix3 j.succ.castSucc t c) := by
  have h : (⟨1 + j.val, by omega⟩ : Fin 31) = j.succ := Fin.ext (by simp only [Fin.val_succ]; omega)
  have h' : (⟨1 + j.val, by omega⟩ : Fin 32) = j.succ.castSucc := Fin.ext (by simp only [Fin.val_succ, Fin.val_castSucc]; omega)
  pointwise [k0_pay196, h, h']
  rfl

theorem pay197_at (j : Fin 30) (r : Fin 64) (c : Fin 128) :
    k0_pay197 v19 v44 v426 v442 v443 v445 v446 (ix3 j r c) = ∑ t : Fin 64,
      Ideal.exp2 (v44 (ix3 j t r) - k0_pay193 v44 v426 v442 v443 v445 v446 (ix3 j.castSucc 0 r)) * v19 (ix3 j.succ.succ t c) := by
  have h' : (⟨2 + j.val, by omega⟩ : Fin 32) = j.succ.succ := Fin.ext (by simp only [Fin.val_succ]; omega)
  have h : (⟨j.val, by omega⟩ : Fin 31) = j.castSucc := rfl
  pointwise [k0_pay197, h, h']
  rfl

theorem pay198_at (vr : FVec Ideal S31x192x128 .bf16) (j : Fin 31) (r : Fin 64) (c : Fin 128) :
    k0_pay198 v44 vr v426 v442 v443 v445 v446 (ix3 j r c) = ∑ u : Fin 192,
      Ideal.exp2 (v426 (ix3 j u r) - k0_pay193 v44 v426 v442 v443 v445 v446 (ix3 j 0 r)) * vr (ix3 j u c) := by
  pointwise [k0_pay198]
  rfl

end Maxima

section Assembly

variable (v34 : FVec Ideal S64x64 .f32) (v441 : FVec Ideal S2x64x128 .bf16) (v488 : FVec Ideal S2x64x64 .f32)
  (v491 : FVec Ideal S31x64x128 .f32) (v494 v497 : FVec Ideal S30x64x128 .f32) (v499 : FVec Ideal S31x64x128 .f32)

/-- The weighted sum of the values for row `r` of the `j`-th block of queries after the first, from the sums over the
    own block, the gathered blocks, the block before, the block after and the extra block. -/
def total (j : Fin 31) (r : Fin 64) (c : Fin 128) : EReal :=
  v491 (ix3 j r c) + v499 (ix3 j r c) + (if h : j.val < 1 then 0 else v494 (ix3 ⟨j.val - 1, by omega⟩ r c))
    + (if h : j.val < 30 then v497 (ix3 ⟨j.val, h⟩ r c) else 0)
    + (if j.val = 10 then ∑ t : Fin 64, v488 (ix3 0 t r) * v441 (ix3 0 t c)
      else if j.val = 27 then ∑ t : Fin 64, v488 (ix3 1 t r) * v441 (ix3 1 t c) else 0)

/-- The first block of queries of the result. -/
theorem pay199_first (R : Fin 2048) (h : R.val < 64) (d : Fin 64) :
    k0_pay199 v34 v441 v488 v491 v494 v497 v499 (ix2 R d) = v34 (ix2 ⟨R.val, h⟩ d) := by
  pointwise [k0_pay199, h]

/-- The other blocks of queries of the result. -/
theorem pay199_rest (j : Fin 31) (r d : Fin 64) :
    k0_pay199 v34 v441 v488 v491 v494 v497 v499 (ix2 (row j.succ r) d)
      = total v441 v488 v491 v494 v497 v499 j r ⟨d.val, by omega⟩ * Ideal.div 1 (total v441 v488 v491 v494 v497 v499 j r 64) := by
  have hR : (row j.succ r).val = 64 + 64 * j.val + r.val := by simp only [row, Fin.val_succ]; omega
  have h0 : ¬ (row j.succ r).val < 64 := by omega
  have h1 : ((row j.succ r).val - 64) / 64 = j.val := by omega
  have h2 : ((row j.succ r).val - 64) % 64 = r.val := by omega
  rcases (show j.val < 10 ∨ j = 10 ∨ (10 < j.val ∧ j.val < 27) ∨ j = 27 ∨ 27 < j.val by simp only [Fin.ext_iff]; omega)
    with h | rfl | h | rfl | h
  · have ha : j.val ≠ 10 := by omega
    have hb : j.val ≠ 27 := by omega
    pointwise [k0_pay199, h0, h1, h2, total, h, ha, hb]
  · pointwise [k0_pay199, h0, h1, h2, total]
  · have h3 : ¬ j.val < 10 := by omega
    have h4 : ¬ j.val - 10 < 1 := by omega
    have h5 : j.val - 10 - 1 < 16 := by omega
    have ha : j.val ≠ 10 := by omega
    have hb : j.val ≠ 27 := by omega
    have e : 11 + (j.val - 10 - 1) = j.val := by omega
    pointwise [k0_pay199, h0, h1, h2, total, h3, h4, h5, ha, hb, e]
  · pointwise [k0_pay199, h0, h1, h2, total]
  · have h3 : ¬ j.val < 10 := by omega
    have h4 : ¬ j.val - 10 < 1 := by omega
    have h5 : ¬ j.val - 10 - 1 < 16 := by omega
    have h6 : ¬ j.val - 10 - 1 - 16 < 1 := by omega
    have ha : j.val ≠ 10 := by omega
    have hb : j.val ≠ 27 := by omega
    have e : 28 + (j.val - 10 - 1 - 16 - 1) = j.val := by omega
    pointwise [k0_pay199, h0, h1, h2, total, h3, h4, h5, h6, ha, hb, e]

end Assembly

end Cert.Head

end
-- ==== Proof.Head.lean ====
/- One head of the kernel's body as one function of its slices, the gathered keys and values read at an index, and the
   body's store as the two heads side by side. -/
module

public import proofs.«01_k».proof.Proof.Payloads

@[expose] public section

set_option maxRecDepth 16384

noncomputable section

namespace Cert.Head

open Idealize.ShloMosaic Cert.KernelIdeal Cert.KernelIdeal.Gen

/-- The gathered blocks, three for each block of queries after the first: block 0 and up to two random ones, padded
    with block 0. -/
def gathered : Fin 93 → Fin 32 := ![
  0, 29, 0, 0, 14, 29, 0, 30, 0, 0, 24, 27, 0, 17, 0, 0, 0, 0, 0, 0, 0, 0, 6, 18, 0, 21, 0, 0, 4, 25, 0,
  8, 18, 0, 0, 0, 0, 15, 0, 0, 8, 18, 0, 9, 12, 0, 0, 0, 0, 1, 0, 0, 1, 10, 0, 6, 11, 0, 6, 0, 0, 7,
  13, 0, 11, 0, 0, 6, 12, 0, 2, 0, 0, 0, 0, 0, 4, 9, 0, 7, 0, 0, 1, 10, 0, 10, 0, 0, 19, 0, 0, 16, 20]

/-- Any block of the 32 is a slice of the keys' blocks. -/
theorem slices_keys (n : Fin 93) : S32x64x64.Slices ![(gathered n).val, 0, 0] S1x64x64 := by
  revert n; decide

/-- Any block of the 32 is a slice of the values' blocks. -/
theorem slices_vals (n : Fin 93) : S32x64x128.Slices ![(gathered n).val, 0, 0] S1x64x128 := by
  revert n; decide

/-- The gathered blocks of the keys, one after another. -/
def keyPiece (b : FVec Ideal S32x64x64 .bf16) (n : Fin 93) : FVec Ideal S64x64 .bf16 :=
  shapeCast S64x64 (extractStridedSlice S1x64x64 ![(gathered n).val, 0, 0] b (slices_keys n)) shapeCasts_S1x64x64_S64x64

/-- The gathered blocks of the values, one after another. -/
def valPiece (b : FVec Ideal S32x64x128 .bf16) (n : Fin 93) : FVec Ideal S64x128 .bf16 :=
  shapeCast S64x128 (extractStridedSlice S1x64x128 ![(gathered n).val, 0, 0] b (slices_vals n)) shapeCasts_S1x64x128_S64x128

theorem concatenates_keys (b : FVec Ideal S32x64x64 .bf16) :
    Shape.Concatenates ((List.ofFn fun n : Fin 93 => (⟨S64x64, keyPiece b n⟩ : (s : Shape) × (s.Idx → Elt Ideal .bf16))).map (·.1)) S5952x64 0 := by
  rw [List.map_ofFn]
  show Shape.Concatenates (List.ofFn fun _ : Fin 93 => S64x64) S5952x64 0
  decide

theorem concatenates_vals (b : FVec Ideal S32x64x128 .bf16) :
    Shape.Concatenates ((List.ofFn fun n : Fin 93 => (⟨S64x128, valPiece b n⟩ : (s : Shape) × (s.Idx → Elt Ideal .bf16))).map (·.1)) S5952x128 0 := by
  rw [List.map_ofFn]
  show Shape.Concatenates (List.ofFn fun _ : Fin 93 => S64x128) S5952x128 0
  decide

/-- The gathered keys. -/
def keyRows (b : FVec Ideal S32x64x64 .bf16) : FVec Ideal S31x192x64 .bf16 :=
  shapeCast S31x192x64 (concatenate S5952x64 0 (List.ofFn fun n : Fin 93 => ⟨S64x64, keyPiece b n⟩) (concatenates_keys b))
    shapeCasts_S5952x64_S31x192x64

/-- The gathered values. -/
def valRows (b : FVec Ideal S32x64x128 .bf16) : FVec Ideal S31x192x128 .bf16 :=
  shapeCast S31x192x128 (concatenate S5952x128 0 (List.ofFn fun n : Fin 93 => ⟨S64x128, valPiece b n⟩) (concatenates_vals b))
    shapeCasts_S5952x128_S31x192x128

/-- Which of the 93 gathered pieces row `u` of the `j`-th group lies in. -/
def piece (j : Fin 31) (u : Fin 192) : Fin 93 := ⟨3 * j.val + u.val / 64, by omega⟩

/-- Where in it. -/
def inPiece (u : Fin 192) : Fin 64 := ⟨u.val % 64, by omega⟩

/-- A gathered key. -/
theorem keyRows_at (b : FVec Ideal S32x64x64 .bf16) (j : Fin 31) (u : Fin 192) (d : Fin 64) :
    keyRows b (ix3 j u d) = b (ix3 (gathered (piece j u)) (inPiece u) d) := by
  have hp : keyPiece b (piece j u) (ix2 (inPiece u) d) = b (ix3 (gathered (piece j u)) (inPiece u) d) := by
    pointwise [keyPiece]
  rw [← hp]
  have hc := concatenate_ofFn_apply (t := S5952x64) (s₁ := S64x64) 0 (fun n : Fin 93 => keyPiece b n) (concatenates_keys b) rfl 64 rfl
    (ix2 ⟨j.val * 192 + u.val, by omega⟩ d) (piece j u) (by simp only [ix2_0, piece]; omega) (ix2 (inPiece u) d)
    (by simp only [Fin.cast_eq_self, ix2_0, inPiece]; omega)
    (fun i hi => by
      match i with
      | 0 => exact absurd rfl hi
      | 1 => rfl)
  rw [← hc, keyRows]
  generalize concatenate S5952x64 0 _ _ = C
  pointwise

/-- A gathered value. -/
theorem valRows_at (b : FVec Ideal S32x64x128 .bf16) (j : Fin 31) (u : Fin 192) (c : Fin 128) :
    valRows b (ix3 j u c) = b (ix3 (gathered (piece j u)) (inPiece u) c) := by
  have hp : valPiece b (piece j u) (ix2 (inPiece u) c) = b (ix3 (gathered (piece j u)) (inPiece u) c) := by
    pointwise [valPiece]
  rw [← hp]
  have hc := concatenate_ofFn_apply (t := S5952x128) (s₁ := S64x128) 0 (fun n : Fin 93 => valPiece b n) (concatenates_vals b) rfl 64 rfl
    (ix2 ⟨j.val * 192 + u.val, by omega⟩ c) (piece j u) (by simp only [ix2_0, piece]; omega) (ix2 (inPiece u) c)
    (by simp only [Fin.cast_eq_self, ix2_0, inPiece]; omega)
    (fun i hi => by
      match i with
      | 0 => exact absurd rfl hi
      | 1 => rfl)
  rw [← hc, valRows]
  generalize concatenate S5952x128 0 _ _ = C
  pointwise

section Stages

variable (q k v : Slice) (x : Vec Ideal S31x192x1 .f32)

/-- The scores against the own block, … -/
def sOwn : FVec Ideal S31x64x64 .f32 := k0_pay10 (k0_pay8 q) (k0_pay9 k) (constant S31x64x64 .f32 0x00000000#32)
/-- … the block before, … -/
def sBefore : FVec Ideal S30x64x64 .f32 := k0_pay11 (k0_pay5 k) (k0_pay8 q)
/-- … the block after, … -/
def sAfter : FVec Ideal S30x64x64 .f32 := k0_pay12 (k0_pay5 k) (k0_pay8 q)
/-- … the gathered blocks, … -/
def sGathered : FVec Ideal S31x192x64 .f32 := k0_pay187 (k0_pay8 q) (keyRows (k0_pay5 k)) x
/-- … and the extra blocks. -/
def sExtra : FVec Ideal S2x64x64 .f32 := k0_pay189 (k0_pay5 k) (k0_pay8 q)

/-- A head's result. -/
def head : FVec Ideal S2048x64 .f32 :=
  k0_pay199 (k0_pay7 q k v) (k0_pay188 (k0_pay6 v))
    (k0_pay194 (sAfter q k) (sGathered q k x) (sExtra q k) k0_pay190 (k0_pay191 (sOwn q k)) (k0_pay192 (sBefore q k)))
    (k0_pay195 (k0_pay6 v) (sOwn q k) (sAfter q k) (sGathered q k x) (sExtra q k) k0_pay190 (k0_pay191 (sOwn q k)) (k0_pay192 (sBefore q k)))
    (k0_pay196 (k0_pay6 v) (sBefore q k) (sAfter q k) (sGathered q k x) (sExtra q k) k0_pay190 (k0_pay191 (sOwn q k)) (k0_pay192 (sBefore q k)))
    (k0_pay197 (k0_pay6 v) (sAfter q k) (sGathered q k x) (sExtra q k) k0_pay190 (k0_pay191 (sOwn q k)) (k0_pay192 (sBefore q k)))
    (k0_pay198 (sAfter q k) (valRows (k0_pay6 v)) (sGathered q k x) (sExtra q k) k0_pay190 (k0_pay191 (sOwn q k)) (k0_pay192 (sBefore q k)))

end Stages

/-- The body's store: the two heads of the block beside one another. -/
theorem out_eq (x0 x1 x2 : Vec Ideal S1x2x2048x64 .f32) (x3 : Vec Ideal S31x192x1 .f32) :
    out0_4 x0 x1 x2 x3 = View.canon [⟨r0_3, shapeCast S1x2048x128 (concatenate S2048x128 1
      [⟨S2048x64, head (View.ld x0 r0_0) (View.ld x1 r0_0) (View.ld x2 r0_0) (View.ld x3 r0_1)⟩,
       ⟨S2048x64, head (View.ld x0 r0_2) (View.ld x1 r0_2) (View.ld x2 r0_2) (View.ld x3 r0_1)⟩]
      concatenates_S2048x64_S2048x64_S2048x128_d1) shapeCasts_S2048x128_S1x2048x128⟩] := by
  rfl

end Cert.Head

end
-- ==== Proof.Tables.lean ====
/- The two tables of the programs: which blocks of keys the reference lets a block of queries look at, and which blocks the
   kernel visits. -/
module

public import proofs.«01_k».proof.Proof.Head
public import proofs.«01_k».proof.Proof.Gen.ReferenceIdeal.Run

@[expose] public section

set_option maxRecDepth 16384

noncomputable section

namespace Cert.Tables

open Idealize.ShloMosaic Cert.Head

/-- Whether the reference's mask lets block `i` of the queries look at block `b` of the keys. -/
def allowed (i b : Fin 32) : Bool := ReferenceIdeal.lit0 ⟨32 * i.val + b.val, by omega⟩ == 0x3F800000#32

/-- Whether the kernel's table leaves the `s`-th gathered block of group `j` unmarked. -/
def kept (j : Fin 31) (s : Fin 3) : Bool := KernelIdeal.lit0 ⟨192 * j.val + 64 * s.val, by omega⟩ == 0x00000000#32

/-- The reference's table holds the words of 1 and 0. -/
theorem reference_word (i b : Fin 32) :
    ReferenceIdeal.lit0 ⟨32 * i.val + b.val, by omega⟩ = if allowed i b then 0x3F800000#32 else 0x00000000#32 := by
  revert i b; decide +kernel

/-- The kernel's table holds the words of 0 and 1, alike over the 64 rows of a block. -/
theorem kernel_word (j : Fin 31) (u : Fin 192) :
    KernelIdeal.lit0 ⟨192 * j.val + u.val, by omega⟩ = if kept j ⟨u.val / 64, by omega⟩ then 0x00000000#32 else 0x3F800000#32 := by
  revert j u; decide +kernel

/-- The first block of queries looks at every block of keys. -/
theorem allowed_first (b : Fin 32) : allowed 0 b = true := by
  revert b; decide +kernel

/-- Every block of queries looks at block 0. -/
theorem allowed_zero (i : Fin 32) : allowed i 0 = true := by
  revert i; decide +kernel

/-- How often the kernel visits block `b` for the `j`-th block of queries after the first: its own block, the unmarked
    gathered ones, the one before, the one after, the extra one. -/
def visits (j : Fin 31) (b : Fin 32) : ℕ :=
  (if b = j.succ then 1 else 0) + (∑ s : Fin 3, if kept j s ∧ b = gathered ⟨3 * j.val + s.val, by omega⟩ then 1 else 0)
    + (if 1 ≤ j.val ∧ b.val = j.val then 1 else 0) + (if b.val = j.val + 2 then 1 else 0)
    + (if (j.val = 10 ∧ b = 29) ∨ (j.val = 27 ∧ b = 16) then 1 else 0)

/-- It visits each allowed block once and no other. -/
theorem visits_eq (j : Fin 31) (b : Fin 32) : visits j b = if allowed j.succ b then 1 else 0 := by
  revert j b; decide +kernel

end Cert.Tables

end
-- ==== Proof.Softmax.lean ====
/- Facts about extended reals that both programs rest on: a weighted sum normalised before or after it is taken, the
   maximum of finitely many scores, and a score's two spellings (base 2 with a folded scale, base e with a quotient). -/
module

public import Idealize.ShloMosaic.PureOps.Ideal
public import Idealize.ShloMosaic.PureOps.Ideal.Laws
public import Mathlib.Data.Finset.Fold
public import Mathlib.Data.Finset.Lattice.Fold

@[expose] public section

noncomputable section

namespace Cert.Softmax

open Idealize.ShloMosaic

/-- A real factor that is not negative distributes over a sum of extended reals. -/
theorem sum_mul_real {ι : Type} (t : Finset ι) (f : ι → EReal) (c : ℝ) (hc : 0 ≤ c) :
    (∑ i ∈ t, f i) * (c : EReal) = ∑ i ∈ t, f i * (c : EReal) := by
  classical
  induction t using Finset.induction_on with
  | empty => simp
  | insert a t ha ih =>
    rw [Finset.sum_insert ha, Finset.sum_insert ha, ← ih,
      EReal.right_distrib_of_nonneg_of_ne_top (EReal.coe_nonneg.mpr hc) (EReal.coe_ne_top c)]

/-- A sum of reals, read in the extended reals. -/
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, ← ih, EReal.coe_add]

/-- The weight of a key: `exp (s − m)` where the key is allowed, `0` where it is masked. -/
def weight {ι : Type} (a : ι → Bool) (s : ι → ℝ) (m : ℝ) (i : ι) : ℝ := if a i then Real.exp (s i - m) else 0

/-- The weights have a positive sum as soon as one key is allowed. -/
theorem weight_sum_pos {ι : Type} [Fintype ι] (a : ι → Bool) (s : ι → ℝ) (m : ℝ) (h : ∃ i, a i = true) :
    0 < ∑ i, weight a s m i := by
  obtain ⟨i, hi⟩ := h
  refine Finset.sum_pos' (fun j _ => ?_) ⟨i, Finset.mem_univ _, ?_⟩
  · unfold weight; split <;> positivity
  · unfold weight; rw [if_pos hi]; positivity

/-- Changing the subtracted number multiplies every weight by one and the same factor. -/
theorem weight_shift {ι : Type} (a : ι → Bool) (s : ι → ℝ) (m m' : ℝ) (i : ι) :
    weight a s m i = weight a s m' i * Real.exp (m' - m) := by
  unfold weight
  split
  · rw [← Real.exp_add]; congr 1; ring
  · simp

/-- So the share of a key does not depend on the number subtracted. -/
theorem share_shift {ι : Type} [Fintype ι] (a : ι → Bool) (s : ι → ℝ) (m m' : ℝ) (h : ∃ i, a i = true) (i : ι) :
    weight a s m i * (1 / ∑ j, weight a s m j) = weight a s m' i * (1 / ∑ j, weight a s m' j) := by
  have hp := (weight_sum_pos a s m' h).ne'
  have he := (Real.exp_pos (m' - m)).ne'
  simp only [weight_shift a s m m', ← Finset.sum_mul]
  field_simp

/-- The weighted sum divided at the end (whatever was subtracted from the scores) is the sum with each weight divided
    first: the values may be infinite. -/
theorem normalize {ι : Type} [Fintype ι] (a : ι → Bool) (s : ι → ℝ) (m m' : ℝ) (v : ι → EReal) (h : ∃ i, a i = true) :
    (∑ i, ((weight a s m i : ℝ) : EReal) * v i) * Ideal.div 1 (∑ i, ((weight a s m i : ℝ) : EReal))
      = ∑ i, v i * Ideal.div ((weight a s m' i : ℝ) : EReal) (∑ j, ((weight a s m' j : ℝ) : EReal)) := by
  have hp := weight_sum_pos a s m h
  have hp' := weight_sum_pos a s m' h
  rw [← coe_sum, ← coe_sum, Ideal.div_coe hp.ne', one_mul, sum_mul_real _ _ _ (by positivity)]
  refine Finset.sum_congr rfl fun i _ => ?_
  rw [Ideal.div_coe hp'.ne', ← EReal.coe_mul, ← share_shift a s m m' h i, EReal.coe_mul, mul_comm _ (v i), mul_assoc]

/-- The maximum, from `−∞`, of finitely many extended reals none of which is `+∞` is not `+∞`. -/
theorem fold_max_lt_top {ι : Type} (t : Finset ι) (f : ι → EReal) (h : ∀ i ∈ t, f i < ⊤) : t.fold max ⊥ f < ⊤ :=
  (Finset.fold_max_lt ⊤).mpr ⟨bot_lt_top, h⟩

/-- It is above `−∞` as soon as one of them is. -/
theorem bot_lt_fold_max {ι : Type} (t : Finset ι) (f : ι → EReal) (i : ι) (hi : i ∈ t) (h : ⊥ < f i) :
    ⊥ < t.fold max ⊥ f :=
  (Finset.lt_fold_max ⊥).mpr (Or.inr ⟨i, hi, h⟩)

/-- An extended real strictly between the infinities is a real. -/
theorem exists_real {x : EReal} (h : ⊥ < x) (h' : x < ⊤) : ∃ r : ℝ, x = (r : EReal) :=
  ⟨x.toReal, (EReal.coe_toReal h'.ne h.ne').symm⟩

/-- The kernel's exponential of a scaled score is the plain one: `2 ^ (s / log 2 − m / log 2) = exp (s − m)`. -/
theorem exp2_scaled (s m : ℝ) :
    Ideal.exp2 (((s * (Real.log 2)⁻¹ : ℝ) : EReal) - ((m * (Real.log 2)⁻¹ : ℝ) : EReal)) = ((Real.exp (s - m) : ℝ) : EReal) := by
  have hl : Real.log 2 ≠ 0 := (Real.log_pos (by norm_num)).ne'
  rw [← EReal.coe_sub, Ideal.exp2_coe]
  congr 1
  show (2 : ℝ) ^ (s * (Real.log 2)⁻¹ - m * (Real.log 2)⁻¹ : ℝ) = _
  rw [Real.rpow_def_of_pos (by norm_num)]
  congr 1
  field_simp

/-- A masked score's exponential vanishes, whatever real is subtracted. -/
theorem exp2_masked (x m : ℝ) : Ideal.exp2 ((x : EReal) + ⊥ - (m : EReal)) = 0 := by
  rw [EReal.add_bot, EReal.bot_sub, Ideal.exp2_bot]

/-- The score of a query against a key over the reals: their dot product over `√64 = 8`. -/
def score {n : ℕ} (q k : Fin n → ℝ) : ℝ := (∑ d, q d * k d) * 8⁻¹

/-- The kernel's score, the scale folded into the query, is the score over `log 2`. -/
theorem kernel_score {n : ℕ} (q k : Fin n → ℝ) :
    ∑ d, (k d : EReal) * ((q d : EReal) * (((Real.log 2)⁻¹ * 8⁻¹ : ℝ) : EReal)) = ((score q k * (Real.log 2)⁻¹ : ℝ) : EReal) := by
  simp only [← EReal.coe_mul, ← coe_sum, score, Finset.sum_mul]
  congr 1
  exact Finset.sum_congr rfl fun d _ => by ring

/-- The reference's score, the dot product divided by the root of the head's width. -/
theorem reference_score {n : ℕ} (q k : Fin n → ℝ) :
    Ideal.div (∑ d, (q d : EReal) * (k d : EReal)) (Ideal.sqrt ((64 : ℝ) : EReal)) = ((score q k : ℝ) : EReal) := by
  have h8 : Real.sqrt 64 = 8 := by rw [show (64 : ℝ) = 8 ^ 2 by norm_num]; exact Real.sqrt_sq (by norm_num)
  rw [Ideal.sqrt_coe, if_neg (by norm_num), h8, Ideal.div_coe (by norm_num)]
  simp only [← EReal.coe_mul, ← coe_sum, score, one_div]

end Cert.Softmax

end
-- ==== Proof.HeadValue.lean ====
/- The value of one head of the kernel's body: each row of queries weighs exactly the allowed keys. -/
module

public import proofs.«01_k».proof.Proof.Head
public import proofs.«01_k».proof.Proof.Tables
public import proofs.«01_k».proof.Proof.Softmax

@[expose] public section

set_option maxRecDepth 16384

noncomputable section

namespace Cert.Head

open Idealize.ShloMosaic Cert.KernelIdeal Cert.KernelIdeal.Gen Cert.Tables Cert.Softmax

/-- The block that a row lies in. -/
def blk (R : Fin 2048) : Fin 32 := ⟨R.val / 64, by omega⟩

/-- A row's place in its block. -/
def inBlk (R : Fin 2048) : Fin 64 := ⟨R.val % 64, by omega⟩

theorem row_blk (R : Fin 2048) : row (blk R) (inBlk R) = R := Fin.ext (by simp only [row, blk, inBlk]; omega)

theorem blk_row (b : Fin 32) (t : Fin 64) : blk (row b t) = b := Fin.ext (by simp only [row, blk]; omega)

/-- The piece of 64 keys that one of the 192 gathered keys lies in. -/
def third (u : Fin 192) : Fin 3 := ⟨u.val / 64, by omega⟩

/-- A sum over the rows, block by block. -/
theorem sum_rows (f : Fin 2048 → EReal) : ∑ T, f T = ∑ b : Fin 32, ∑ t : Fin 64, f (row b t) := by
  rw [Fin.sum_univ_tiles 32 64 rfl f]
  refine Finset.sum_congr rfl fun b _ => Finset.sum_congr rfl fun t _ => congrArg f (Fin.ext ?_)
  simp only [row]; omega

/-- What the kernel adds up over the blocks that it visits is the sum over the allowed blocks. -/
theorem sum_visits (F : Fin 32 → EReal) (j : Fin 31) :
    F j.succ + (∑ s : Fin 3, if kept j s then F (gathered ⟨3 * j.val + s.val, by omega⟩) else 0)
      + (if h : j.val < 1 then 0 else F ⟨j.val, by omega⟩) + (if h : j.val < 30 then F ⟨j.val + 2, by omega⟩ else 0)
      + (if j.val = 10 then F 29 else if j.val = 27 then F 16 else 0)
    = ∑ b : Fin 32, if allowed j.succ b then F b else 0 := by
  have pick (p : Prop) [Decidable p] (a : Fin 32) : (if p then F a else 0) = ∑ b : Fin 32, (if p ∧ b = a then 1 else 0 : ℕ) • F b := by
    by_cases hp : p
    · simp [hp, ite_smul]
    · simp [hp]
  have h1 : F j.succ = ∑ b : Fin 32, (if b = j.succ then 1 else 0 : ℕ) • F b := by simp [ite_smul]
  have h2 : (∑ s : Fin 3, if kept j s then F (gathered ⟨3 * j.val + s.val, by omega⟩) else 0)
      = ∑ b : Fin 32, (∑ s : Fin 3, if kept j s ∧ b = gathered ⟨3 * j.val + s.val, by omega⟩ then 1 else 0 : ℕ) • F b := by
    simp only [Finset.sum_smul]
    rw [Finset.sum_comm]
    exact Finset.sum_congr rfl fun s _ => pick _ _
  have h3 : (if h : j.val < 1 then 0 else F ⟨j.val, by omega⟩) = ∑ b : Fin 32, (if 1 ≤ j.val ∧ b.val = j.val then 1 else 0 : ℕ) • F b := by
    have := pick (1 ≤ j.val) ⟨j.val, by omega⟩
    simp only [Fin.ext_iff] at this
    rw [← this]
    split <;> rename_i h
    · rw [if_neg (by omega)]
    · rw [if_pos (by omega)]
  have h4 : (if h : j.val < 30 then F ⟨j.val + 2, by omega⟩ else 0) = ∑ b : Fin 32, (if b.val = j.val + 2 then 1 else 0 : ℕ) • F b := by
    split <;> rename_i h
    · have := pick True ⟨j.val + 2, by omega⟩
      simpa only [Fin.ext_iff, true_and, if_true] using this
    · refine (Finset.sum_eq_zero fun b _ => ?_).symm
      rw [if_neg (by omega), zero_smul]
  have h5 : (if j.val = 10 then F 29 else if j.val = 27 then F 16 else 0)
      = ∑ b : Fin 32, (if (j.val = 10 ∧ b = 29) ∨ (j.val = 27 ∧ b = 16) then 1 else 0 : ℕ) • F b := by
    by_cases ha : j.val = 10
    · simp [ha, ite_smul]
    · by_cases hb : j.val = 27
      · simp [hb, ite_smul]
      · simp [ha, hb]
  rw [h1, h2, h3, h4, h5]
  simp only [← Finset.sum_add_distrib, ← add_smul]
  refine Finset.sum_congr rfl fun b _ => ?_
  have hv := visits_eq j b
  unfold visits at hv
  rw [hv]
  split <;> simp

section

variable (q k v : Slice) (x : Vec Ideal S31x192x1 .f32) (q' k' : Fin 2048 → Fin 64 → ℝ)
  (hq : ∀ R d, q (ix4 0 0 R d) = ((q' R d : ℝ) : EReal)) (hk : ∀ R d, k (ix4 0 0 R d) = ((k' R d : ℝ) : EReal))
  (hx : ∀ j u, x (ix3 j u 0) = if kept j (third u) then 0 else 1)

include hq hk in
/-- The kernel's score is the score over `log 2`. -/
theorem sc_eq (R T : Fin 2048) : sc q k R T = ((score (q' R) (k' T) * (Real.log 2)⁻¹ : ℝ) : EReal) := by
  unfold sc scale
  simp only [hq, hk]
  exact kernel_score _ _

/-- The sum over a block of the weighted values. -/
def blockSum (R : Fin 2048) (μ : ℝ) (c : Fin 128) (b : Fin 32) : EReal :=
  ∑ t : Fin 64, ((Real.exp (score (q' R) (k' (row b t)) - μ) : ℝ) : EReal) * vcol v (row b t) c

/-- The blocks' sums over the allowed blocks are the sum over all keys with the masked ones' weights put to 0. -/
theorem sum_allowed (R : Fin 2048) (μ : ℝ) (c : Fin 128) :
    (∑ b : Fin 32, if allowed (blk R) b then blockSum v q' k' R μ c b else 0)
      = ∑ T, ((weight (fun T => allowed (blk R) (blk T)) (fun T => score (q' R) (k' T)) μ T : ℝ) : EReal) * vcol v T c := by
  rw [sum_rows]
  refine Finset.sum_congr rfl fun b _ => ?_
  unfold blockSum weight
  simp only [blk_row]
  split
  · rfl
  · simp

/-- A weighted sum over column 64, the column of ones, is the sum of the weights. -/
theorem sum_ones (f : Fin 2048 → EReal) : ∑ T, f T * vcol v T 64 = ∑ T, f T := by
  refine Finset.sum_congr rfl fun T _ => ?_
  have : vcol v T 64 = 1 := rfl
  rw [this, mul_one]

/-- A weighted sum over a column of the values. -/
theorem sum_vals (f : Fin 2048 → EReal) (d : Fin 64) :
    ∑ T, f T * vcol v T ⟨d.val, by omega⟩ = ∑ T, f T * v (ix4 0 0 T d) := by
  refine Finset.sum_congr rfl fun T _ => ?_
  have : vcol v T ⟨d.val, by omega⟩ = v (ix4 0 0 T d) := by
    unfold vcol; rw [dif_pos d.isLt]
  rw [this]

/-- The maxima that the kernel subtracts. -/
abbrev maxima : FVec Ideal S31x1x64 .f32 :=
  k0_pay193 (sAfter q k) (sGathered q k x) (sExtra q k) k0_pay190 (k0_pay191 (sOwn q k)) (k0_pay192 (sBefore q k))

theorem sOwn_at (j : Fin 31) (t r : Fin 64) : sOwn q k (ix3 j t r) = sc q k (row j.succ r) (row j.succ t) := pay10_at q k j t r

theorem sBefore_at (j : Fin 30) (t r : Fin 64) : sBefore q k (ix3 j t r) = sc q k (row j.succ.succ r) (row j.succ.castSucc t) :=
  pay11_at q k j t r

theorem sAfter_at (j : Fin 30) (t r : Fin 64) : sAfter q k (ix3 j t r) = sc q k (row j.castSucc.succ r) (row j.succ.succ t) :=
  pay12_at q k j t r

theorem sExtra_at (s : Fin 2) (t r : Fin 64) : sExtra q k (ix3 s t r) = sc q k (row (xrow s).succ r) (row (xcol s) t) :=
  pay189_at q k s t r

theorem sGathered_at (j : Fin 31) (u : Fin 192) (r : Fin 64) :
    sGathered q k x (ix3 j u r) = sc q k (row j.succ r) (row (gathered (piece j u)) (inPiece u)) + x (ix3 j u 0) * ⊥ := by
  unfold sGathered
  rw [pay187_at]
  simp only [keyRows_at, pay5_at, sc]

include hq hk hx in
/-- They are reals. -/
theorem maxima_real : ∃ μ : Fin 31 → Fin 64 → ℝ, ∀ j r, maxima q k x (ix3 j 0 r) = ((μ j r * (Real.log 2)⁻¹ : ℝ) : EReal) := by
  have hsc (R T : Fin 2048) : sc q k R T < ⊤ := by rw [sc_eq q k q' k' hq hk]; exact EReal.coe_lt_top _
  have hsc' (R T : Fin 2048) : ⊥ < sc q k R T := by rw [sc_eq q k q' k' hq hk]; exact EReal.bot_lt_coe _
  have hmax : ∀ j r, ∃ ρ : ℝ, maxima q k x (ix3 j 0 r) = (ρ : EReal) := fun j r => by
    refine exists_real ?_ ?_
    · refine bot_lt_pay193 _ _ _ _ _ _ (fun j r => ?_) j r
      rw [pay191_at]
      exact bot_lt_fold_max _ _ 0 (Finset.mem_univ _) (by rw [sOwn_at]; exact hsc' _ _)
    · refine pay193_lt_top _ _ _ _ _ _ (fun j t r => ?_) (fun j t r => ?_) (fun j t r => ?_) (fun r => ?_) (fun j r => ?_) (fun j r => ?_) j r
      · rw [sAfter_at]; exact hsc _ _
      · rw [sGathered_at, hx]
        split
        · rw [zero_mul, add_zero]; exact hsc _ _
        · rw [one_mul, EReal.add_bot]; exact bot_lt_top
      · rw [sExtra_at]; exact hsc _ _
      · rw [pay190_at]; exact bot_lt_top
      · rw [pay191_at]; exact fold_max_lt_top _ _ fun t _ => by rw [sOwn_at]; exact hsc _ _
      · rw [pay192_at]; exact fold_max_lt_top _ _ fun t _ => by rw [sBefore_at]; exact hsc _ _
  choose ρ hρ using hmax
  refine ⟨fun j r => ρ j r * Real.log 2, fun j r => (hρ j r).trans ?_⟩
  have hl : Real.log 2 ≠ 0 := (Real.log_pos (by norm_num)).ne'
  congr 1
  field_simp

include hq hk hx in
/-- A row of the head, beyond the first block: the weighted sum of the values over the allowed keys, divided at the end. -/
theorem head_rest : ∃ μ : Fin 31 → Fin 64 → ℝ, ∀ j r d,
    head q k v x (ix2 (row j.succ r) d) =
      (∑ T, ((weight (fun T => allowed j.succ (blk T)) (fun T => score (q' (row j.succ r)) (k' T)) (μ j r) T : ℝ) : EReal) * v (ix4 0 0 T d))
        * Ideal.div 1 (∑ T, ((weight (fun T => allowed j.succ (blk T)) (fun T => score (q' (row j.succ r)) (k' T)) (μ j r) T : ℝ) : EReal)) := by
  obtain ⟨μ, hμ⟩ := maxima_real q k x q' k' hq hk hx
  refine ⟨μ, fun j r d => ?_⟩
  have hs := sc_eq q k q' k' hq hk
  -- a block's part of the sum, its weights spelt as the kernel spells them
  have hpart (j : Fin 31) (r : Fin 64) (b : Fin 32) (c : Fin 128) :
      (∑ t : Fin 64, Ideal.exp2 (sc q k (row j.succ r) (row b t) - maxima q k x (ix3 j 0 r)) * k0_pay6 v (ix3 b t c))
        = blockSum v q' k' (row j.succ r) (μ j r) c b := by
    unfold blockSum
    refine Finset.sum_congr rfl fun t _ => ?_
    rw [hs, hμ, exp2_scaled, pay6_at]
  have htot (c : Fin 128) : total (k0_pay188 (k0_pay6 v))
      (k0_pay194 (sAfter q k) (sGathered q k x) (sExtra q k) k0_pay190 (k0_pay191 (sOwn q k)) (k0_pay192 (sBefore q k)))
      (k0_pay195 (k0_pay6 v) (sOwn q k) (sAfter q k) (sGathered q k x) (sExtra q k) k0_pay190 (k0_pay191 (sOwn q k)) (k0_pay192 (sBefore q k)))
      (k0_pay196 (k0_pay6 v) (sBefore q k) (sAfter q k) (sGathered q k x) (sExtra q k) k0_pay190 (k0_pay191 (sOwn q k)) (k0_pay192 (sBefore q k)))
      (k0_pay197 (k0_pay6 v) (sAfter q k) (sGathered q k x) (sExtra q k) k0_pay190 (k0_pay191 (sOwn q k)) (k0_pay192 (sBefore q k)))
      (k0_pay198 (sAfter q k) (valRows (k0_pay6 v)) (sGathered q k x) (sExtra q k) k0_pay190 (k0_pay191 (sOwn q k)) (k0_pay192 (sBefore q k)))
      j r c = ∑ b : Fin 32, if allowed j.succ b then blockSum v q' k' (row j.succ r) (μ j r) c b else 0 := by
    rw [← sum_visits]
    unfold total
    congr 1
    · congr 1
      · congr 1
        · congr 1
          · rw [pay195_at]
            simp only [sOwn_at]
            exact hpart j r _ c
          · rw [pay198_at, Fin.sum_univ_tiles 3 64 rfl]
            refine Finset.sum_congr rfl fun s _ => ?_
            have hb : ∀ t : Fin 64, (piece j ⟨s.val * 64 + t.val, by omega⟩) = ⟨3 * j.val + s.val, by omega⟩ := fun t =>
              Fin.ext (by simp only [piece]; omega)
            have ht : ∀ t : Fin 64, inPiece ⟨s.val * 64 + t.val, by omega⟩ = t := fun t =>
              Fin.ext (by simp only [inPiece]; omega)
            have hm : ∀ t : Fin 64, x (ix3 j ⟨s.val * 64 + t.val, by omega⟩ 0) = if kept j s then 0 else 1 := fun t => by
              rw [hx]
              have : third ⟨s.val * 64 + t.val, by omega⟩ = s := Fin.ext (by show (s.val * 64 + t.val) / 64 = s.val; omega)
              rw [this]
            simp only [sGathered_at, valRows_at, hb, ht, hm]
            split
            · simp only [zero_mul, add_zero]
              exact hpart j r _ c
            · refine Finset.sum_eq_zero fun t _ => ?_
              have hμ' := hμ j r
              unfold maxima at hμ'
              rw [one_mul, hs, hμ', exp2_masked, zero_mul]
        · split
          · rfl
          · rename_i h
            obtain ⟨i, rfl⟩ : ∃ i : Fin 30, j = i.succ := ⟨⟨j.val - 1, by omega⟩, Fin.ext (by simp only [Fin.val_succ]; omega)⟩
            have hi : (⟨i.succ.val - 1, by omega⟩ : Fin 30) = i := Fin.ext (by simp only [Fin.val_succ]; omega)
            rw [hi, pay196_at]
            simp only [sBefore_at]
            exact hpart i.succ r _ c
      · split
        · rename_i h
          obtain ⟨i, rfl⟩ : ∃ i : Fin 30, j = i.castSucc := ⟨⟨j.val, h⟩, rfl⟩
          have hi : (⟨i.castSucc.val, h⟩ : Fin 30) = i := rfl
          rw [hi, pay197_at]
          simp only [sAfter_at]
          exact hpart i.castSucc r _ c
        · rfl
    · have hextra (s : Fin 2) : (∑ t : Fin 64, k0_pay194 (sAfter q k) (sGathered q k x) (sExtra q k) k0_pay190 (k0_pay191 (sOwn q k)) (k0_pay192 (sBefore q k)) (ix3 s t r)
          * k0_pay188 (k0_pay6 v) (ix3 s t c)) = blockSum v q' k' (row (xrow s).succ r) (μ (xrow s) r) c (xcol s) := by
        rw [← hpart]
        refine Finset.sum_congr rfl fun t _ => ?_
        rw [pay194_at, pay188_at, sExtra_at, pay6_at]
      rw [hextra, hextra]
      split
      · rename_i h
        obtain rfl : j = 10 := Fin.ext h
        rfl
      · split
        · rename_i h
          obtain rfl : j = 27 := Fin.ext h
          rfl
        · rfl
  have hw := sum_allowed v q' k' (row j.succ r) (μ j r)
  rw [blk_row] at hw
  unfold head
  rw [pay199_rest, htot, htot, hw, hw, sum_ones, sum_vals]

/-- A row of the first block. -/
def row0 (r : Fin 64) : Fin 2048 := ⟨r.val, by omega⟩

/-- The largest score of a row of the first block. -/
def maxFirst (r : Fin 64) : EReal := Finset.univ.fold max ⊥ fun T : Fin 2048 => sc q k (row0 r) T

/-- A row of the first block before the division: every key is weighed. -/
def sumFirst (r : Fin 64) (c : Fin 128) : EReal :=
  ∑ T : Fin 2048, Ideal.exp2 (sc q k (row0 r) T - maxFirst q k r) * vcol v T c

theorem pay7_at (r d : Fin 64) :
    k0_pay7 q k v (ix2 r d) = sumFirst q k v r ⟨d.val, by omega⟩ * Ideal.div 1 (sumFirst q k v r 64) := by
  pointwise [k0_pay7, pay2_at, pay3_at, pay4_at, neg_inf_eq, sumFirst, maxFirst, sc, row0]
  rfl

include hq hk in
/-- A row of the head in the first block. -/
theorem head_first (r : Fin 64) : ∃ μ : ℝ, ∀ d,
    head q k v x (ix2 (row 0 r) d) =
      (∑ T, ((weight (fun T => allowed 0 (blk T)) (fun T => score (q' (row 0 r)) (k' T)) μ T : ℝ) : EReal) * v (ix4 0 0 T d))
        * Ideal.div 1 (∑ T, ((weight (fun T => allowed 0 (blk T)) (fun T => score (q' (row 0 r)) (k' T)) μ T : ℝ) : EReal)) := by
  have hs := sc_eq q k q' k' hq hk
  have hrow : row0 r = row 0 r := Fin.ext (by simp only [row0, row, Fin.val_zero]; omega)
  obtain ⟨ρ, hρ⟩ : ∃ ρ : ℝ, maxFirst q k r = (ρ : EReal) :=
    exists_real (bot_lt_fold_max _ _ 0 (Finset.mem_univ _) (by rw [hs]; exact EReal.bot_lt_coe _))
      (fold_max_lt_top _ _ fun T _ => by rw [hs]; exact EReal.coe_lt_top _)
  have hl : Real.log 2 ≠ 0 := (Real.log_pos (by norm_num)).ne'
  have hρ' : maxFirst q k r = ((ρ * Real.log 2 * (Real.log 2)⁻¹ : ℝ) : EReal) := by
    rw [hρ, mul_assoc, mul_inv_cancel₀ hl, mul_one]
  refine ⟨ρ * Real.log 2, fun d => ?_⟩
  have hsum (c : Fin 128) : sumFirst q k v r c
      = ∑ T, ((weight (fun T => allowed 0 (blk T)) (fun T => score (q' (row 0 r)) (k' T)) (ρ * Real.log 2) T : ℝ) : EReal) * vcol v T c := by
    unfold sumFirst
    refine Finset.sum_congr rfl fun T _ => ?_
    rw [hρ', hs, exp2_scaled, hrow]
    simp only [weight, allowed_first, if_true]
  have hlt : (row 0 r).val < 64 := by simp only [row, Fin.val_zero]; omega
  have hr : (⟨(row 0 r).val, hlt⟩ : Fin 64) = r := Fin.ext (by simp only [row, Fin.val_zero]; omega)
  unfold head
  rw [pay199_first _ _ _ _ _ _ _ _ hlt, hr, pay7_at, hsum, hsum, sum_ones, sum_vals]

include hq hk hx in
/-- A row of the head. -/
theorem head_row (R : Fin 2048) : ∃ μ : ℝ, ∀ d,
    head q k v x (ix2 R d) =
      (∑ T, ((weight (fun T => allowed (blk R) (blk T)) (fun T => score (q' R) (k' T)) μ T : ℝ) : EReal) * v (ix4 0 0 T d))
        * Ideal.div 1 (∑ T, ((weight (fun T => allowed (blk R) (blk T)) (fun T => score (q' R) (k' T)) μ T : ℝ) : EReal)) := by
  obtain ⟨b, r, rfl⟩ : ∃ b r, R = row b r := ⟨blk R, inBlk R, (row_blk R).symm⟩
  rw [blk_row]
  rcases Fin.eq_zero_or_eq_succ b with rfl | ⟨j, rfl⟩
  · exact head_first q k v x q' k' hq hk r
  · obtain ⟨μ, h⟩ := head_rest q k v x q' k' hq hk hx
    exact ⟨μ j r, h j r⟩

include hq hk hx in
/-- The head is the softmax over the allowed keys, whatever real `M` is subtracted from the scores. -/
theorem head_value (R : Fin 2048) (d : Fin 64) (M : ℝ) :
    head q k v x (ix2 R d) =
      ∑ T, v (ix4 0 0 T d) * Ideal.div ((weight (fun T => allowed (blk R) (blk T)) (fun T => score (q' R) (k' T)) M T : ℝ) : EReal)
        (∑ T, ((weight (fun T => allowed (blk R) (blk T)) (fun T => score (q' R) (k' T)) M T : ℝ) : EReal)) := by
  obtain ⟨μ, h⟩ := head_row q k v x q' k' hq hk hx R
  rw [h d]
  exact normalize _ _ μ M _ ⟨0, allowed_zero _⟩

end

end Cert.Head

end
-- ==== Proof.Array.lean ====
/- The kernel's result array: under every head, the softmax over the allowed keys. -/
module

public import proofs.«01_k».proof.Proof.HeadValue
public import proofs.«01_k».proof.Proof.Gen.KernelIdeal.Value
public import Idealize.ShloMosaic.Lib.Pipeline.ValueKit

@[expose] public section

set_option maxRecDepth 16384

noncomputable section

namespace Cert.Head

open Idealize.ShloMosaic Idealize.ShloMosaic.TcCoe Cert.KernelIdeal Cert.KernelIdeal.Gen Cert.Tables Cert.Softmax

/-- One head at row `R` and column `d`: the values weighed by the softmax of the scores over the allowed keys, the real `M`
    subtracted from the scores. -/
def attended (q k : Fin 2048 → Fin 64 → ℝ) (v : Fin 2048 → Fin 64 → EReal) (M : ℝ) (R : Fin 2048) (d : Fin 64) : EReal :=
  ∑ T, v T d * Ideal.div ((weight (fun T => allowed (blk R) (blk T)) (fun T => score (q R) (k T)) M T : ℝ) : EReal)
    (∑ T, ((weight (fun T => allowed (blk R) (blk T)) (fun T => score (q R) (k T)) M T : ℝ) : EReal))

/-- The first head of a block, as the body loads it. -/
theorem ld_first (x : Vec Ideal S1x2x2048x64 .f32) (R : Fin 2048) (d : Fin 64) : View.ld x r0_0 (ix4 0 0 R d) = x (ix4 0 0 R d) := by
  pointwise []

/-- The second. -/
theorem ld_second (x : Vec Ideal S1x2x2048x64 .f32) (R : Fin 2048) (d : Fin 64) : View.ld x r0_2 (ix4 0 0 R d) = x (ix4 0 1 R d) := by
  pointwise []

/-- The table of marks, loaded whole. -/
theorem ld_marks (x : Vec Ideal S31x192x1 .f32) : View.ld x r0_1 = x := View.ld_unit_lit _ _ (by decide)

/-- What the body stores, at row `R` and column `C` of its block. -/
theorem out_at (x0 x1 x2 : Vec Ideal S1x2x2048x64 .f32) (x3 : Vec Ideal S31x192x1 .f32) (R : Fin 2048) (C : Fin 128) :
    out0_4 x0 x1 x2 x3 (ix3 0 R C) =
      if h : C.val < 64 then head (View.ld x0 r0_0) (View.ld x1 r0_0) (View.ld x2 r0_0) x3 (ix2 R ⟨C.val, h⟩)
      else head (View.ld x0 r0_2) (View.ld x1 r0_2) (View.ld x2 r0_2) x3 (ix2 R ⟨C.val - 64, by omega⟩) := by
  rw [out_eq, View.canon_cons_unit_lit _ _ _ (by decide), ld_marks]
  generalize head (View.ld x0 r0_0) (View.ld x1 r0_0) (View.ld x2 r0_0) x3 = A
  generalize head (View.ld x0 r0_2) (View.ld x1 r0_2) (View.ld x2 r0_2) x3 = B
  pointwise []

/-- What the body stores is, for each of its two heads, the softmax over the allowed keys. -/
theorem out_value (x0 x1 x2 : Vec Ideal S1x2x2048x64 .f32) (x3 : Vec Ideal S31x192x1 .f32) (q' k' : Fin 2 → Fin 2048 → Fin 64 → ℝ)
    (hq : ∀ s R d, x0 (ix4 0 s R d) = ((q' s R d : ℝ) : EReal)) (hk : ∀ s R d, x1 (ix4 0 s R d) = ((k' s R d : ℝ) : EReal))
    (hx : ∀ j u, x3 (ix3 j u 0) = if kept j (third u) then 0 else 1) (M : ℝ) (R : Fin 2048) (s : Fin 2) (d : Fin 64) :
    out0_4 x0 x1 x2 x3 (ix3 0 R ⟨64 * s.val + d.val, by omega⟩) = attended (q' s) (k' s) (fun T d => x2 (ix4 0 s T d)) M R d := by
  rw [out_at]
  match s with
  | 0 =>
    rw [dif_pos (by show 64 * 0 + d.val < 64; omega), head_value _ _ _ _ (q' 0) (k' 0)
      (fun R d => (ld_first _ _ _).trans (hq 0 R d)) (fun R d => (ld_first _ _ _).trans (hk 0 R d)) hx R _ M]
    have hd : (⟨64 * (0 : Fin 2).val + d.val, by omega⟩ : Fin 64) = d := Fin.ext (by show 64 * 0 + d.val = d.val; omega)
    rw [hd]
    refine Finset.sum_congr rfl fun T _ => ?_
    congr 1
    exact ld_first x2 T d
  | 1 =>
    rw [dif_neg (by show ¬ 64 * 1 + d.val < 64; omega), head_value _ _ _ _ (q' 1) (k' 1)
      (fun R d => (ld_second _ _ _).trans (hq 1 R d)) (fun R d => (ld_second _ _ _).trans (hk 1 R d)) hx R _ M]
    have hd : (⟨64 * (1 : Fin 2).val + d.val - 64, by omega⟩ : Fin 64) = d := Fin.ext (by show 64 * 1 + d.val - 64 = d.val; omega)
    rw [hd]
    refine Finset.sum_congr rfl fun T _ => ?_
    congr 1
    exact ld_second x2 T d

variable (m : (ℓ : Loc nD τ sig) → Buf (Elt Ideal) ℓ)

/-- A head's number, the `s`-th of block `t`. -/
def headOf (t : Fin 8) (s : Fin 2) : Fin 16 := ⟨2 * t.val + s.val, by omega⟩

/-- Where each window's block lies. -/
theorem index0 : ∀ t : Fin cfg0.N, win0_0.index t = ![0, t.val, 0, 0] := (by decide +kernel : ∀ t : Fin grid0.N, _)
theorem index1 : ∀ t : Fin cfg0.N, win0_1.index t = ![0, t.val, 0, 0] := (by decide +kernel : ∀ t : Fin grid0.N, _)
theorem index2 : ∀ t : Fin cfg0.N, win0_2.index t = ![0, t.val, 0, 0] := (by decide +kernel : ∀ t : Fin grid0.N, _)
theorem index3 : ∀ t : Fin cfg0.N, win0_3.index t = ![0, 0, 0] := (by decide +kernel : ∀ t : Fin grid0.N, _)
theorem index4 : ∀ t : Fin cfg0.N, win0_4.index t = ![0, 0, t.val] := (by decide +kernel : ∀ t : Fin grid0.N, _)

/-- The grid has 8 points. -/
theorem points (t : Fin cfg0.N) : t.val < 8 := t.isLt.trans_eq N_0

/-- The blocks of the queries, of the keys and of the values: two heads of the argument. -/
theorem block0 (c : Dev nD) (t : Fin cfg0.N) (s : Fin 2) (R : Fin 2048) (d : Fin 64) :
    iblk m c 0 t (ix4 0 s R d) = m ((c : Thread nD τ).loc main_arg0) (ix4 0 (headOf ⟨t.val, points t⟩ s) R d) := by
  blk_ext! [iblk, V_main_arg0, index0 t, headOf]
theorem block1 (c : Dev nD) (t : Fin cfg0.N) (s : Fin 2) (R : Fin 2048) (d : Fin 64) :
    iblk m c 1 t (ix4 0 s R d) = m ((c : Thread nD τ).loc main_arg1) (ix4 0 (headOf ⟨t.val, points t⟩ s) R d) := by
  blk_ext! [iblk, V_main_arg1, index1 t, headOf]
theorem block2 (c : Dev nD) (t : Fin cfg0.N) (s : Fin 2) (R : Fin 2048) (d : Fin 64) :
    iblk m c 2 t (ix4 0 s R d) = m ((c : Thread nD τ).loc main_arg2) (ix4 0 (headOf ⟨t.val, points t⟩ s) R d) := by
  blk_ext! [iblk, V_main_arg2, index2 t, headOf]

/-- The block of the marks: the table, 0 at a kept piece and 1 at a marked one. -/
theorem block3 (c : Dev nD) (t : Fin cfg0.N) (j : Fin 31) (u : Fin 192) :
    (iblk m c 3 t : Vec Ideal S31x192x1 .f32) (ix3 j u 0) = (if kept j (third u) then 0 else 1 : EReal) := by
  have h : (iblk m c 3 t : Vec Ideal S31x192x1 .f32) (ix3 j u 0) = Ideal.ofBits .f32 (lit0 (S31x192x1.rowMajor (ix3 j u 0))) := by
    blk_simp [iblk]
    entry_read
    have he : ((View.whole main_cst).slice (win0_3.rect t)).emb (ix3 j u 0) = ix3 j u 0 := by blk_ext [index3 t]
    rw [he]
    rfl
  have hi : S31x192x1.rowMajor (ix3 j u 0) = ⟨192 * j.val + u.val, by show _ < 31 * 192 * 1; omega⟩ := by
    exact Fin.ext ((Shape.rowMajor_val_three _).trans (by show (j.val * 192 + u.val) * 1 + 0 = 192 * j.val + u.val; omega))
  rw [h, hi, kernel_word]
  have hu : (⟨u.val / 64, by omega⟩ : Fin 3) = third u := rfl
  rw [hu]
  split
  · exact Ideal.ofBits_zero_f32
  · exact Ideal.ofBits_one_f32

/-- An array of 16 heads beside one another, each of 64 columns. -/
def beside (f : Fin 16 → Fin 2048 → Fin 64 → EReal) : Vec Ideal S1x2048x1024 .f32 := fun i =>
  f ⟨(i 2).val / 64, by have : (i 2).val < 1024 := (i 2).isLt; omega⟩ (i 1) ⟨(i 2).val % 64, by omega⟩

theorem beside_at (f : Fin 16 → Fin 2048 → Fin 64 → EReal) (R : Fin 2048) (h : Fin 16) (d : Fin 64) (i : S1x2048x1024.Idx)
    (h1 : (i 1).val = R.val) (h2 : (i 2).val = 64 * h.val + d.val) : beside f i = f h R d := by
  have hh : (⟨(i 2).val / 64, by have : (i 2).val < 1024 := (i 2).isLt; omega⟩ : Fin 16) = h := Fin.ext (by show (i 2).val / 64 = h.val; omega)
  have hd : (⟨(i 2).val % 64, by omega⟩ : Fin 64) = d := Fin.ext (by show (i 2).val % 64 = d.val; omega)
  have hR : (i 1 : Fin 2048) = R := Fin.ext h1
  show f ⟨(i 2).val / 64, _⟩ (i 1 : Fin 2048) ⟨(i 2).val % 64, _⟩ = _
  rw [hh, hd, hR]

/-- The kernel's result array. -/
theorem final (c : Dev nD) (q' k' : Fin 16 → Fin 2048 → Fin 64 → ℝ)
    (hq : ∀ h R d, m ((c : Thread nD τ).loc main_arg0) (ix4 0 h R d) = ((q' h R d : ℝ) : EReal))
    (hk : ∀ h R d, m ((c : Thread nD τ).loc main_arg1) (ix4 0 h R d) = ((k' h R d : ℝ) : EReal))
    (M : Fin 16 → Fin 2048 → ℝ) :
    (dats m 0 c).arrAt 4 cfg0.N = beside fun h R d =>
      attended (q' h) (k' h) (fun T d => m ((c : Thread nD τ).loc main_arg2) (ix4 0 h T d)) (M h R) R d := by
  refine (dats m 0 c).arrAt_eq_of_covers 4 _ (by decide +kernel) fun t hf y => ?_
  blk_simp
  rw [after0_4]
  obtain ⟨z, R, C, rfl⟩ : ∃ (z : Fin 1) (R : Fin 2048) (C : Fin 128), y = ix3 z R C := ⟨y 0, y 1, y 2, by funext a; fin_cases a <;> rfl⟩
  obtain ⟨s, d, rfl⟩ : ∃ (s : Fin 2) (d : Fin 64), C = ⟨64 * s.val + d.val, by omega⟩ :=
    ⟨⟨C.val / 64, by omega⟩, ⟨C.val % 64, by omega⟩, Fin.ext (by show C.val = 64 * (C.val / 64) + C.val % 64; omega)⟩
  obtain rfl : z = 0 := Subsingleton.elim _ _
  rw [out_value _ _ _ _ (fun s => q' (headOf ⟨t.val, points t⟩ s)) (fun s => k' (headOf ⟨t.val, points t⟩ s))
    (fun s R d => (block0 m c t s R d).trans (hq _ R d)) (fun s R d => (block1 m c t s R d).trans (hk _ R d))
    (block3 m c t) (M (headOf ⟨t.val, points t⟩ s) R) R s d]
  rw [beside_at _ R (headOf ⟨t.val, points t⟩ s) d _ ?_ ?_]
  · exact congrArg (fun v => attended (q' (headOf ⟨t.val, points t⟩ s)) (k' (headOf ⟨t.val, points t⟩ s)) v
      (M (headOf ⟨t.val, points t⟩ s) R) R d) (funext fun T => funext fun d => block2 m c t s T d)
  · blk_simp [index4 t]
  · blk_simp [index4 t]
    show t.val * 128 + (64 * s.val + d.val) = 64 * (2 * t.val + s.val) + d.val
    omega

end Cert.Head

end
-- ==== Proof.Ref.lean ====
/- The reference's result: under every head, the softmax over the allowed keys. -/
module

public import proofs.«01_k».proof.Proof.Array
public import proofs.«01_k».proof.Proof.Gen.ReferenceIdeal.Run

@[expose] public section

set_option maxRecDepth 16384

noncomputable section

namespace Cert.Ref

open Idealize.ShloMosaic Idealize.ShloMosaic.TcCoe Cert.ReferenceIdeal Cert.ReferenceIdeal.Gen Cert.Tables Cert.Softmax
open Cert.Head (blk attended beside beside_at)

/-- The table of allowed blocks. -/
def table : FVec Ideal S32x32 .f32 := fun i => FloatOps.ofBits (F := Ideal) .f32 (lit0 (S32x32.rowMajor i))

/-- The table repeated over the rows of each block, the smaller of it and the argument's mask, and what is added to the
    scores: 0 where that is 1, −∞ where it is less. -/
def bias (mask : FVec Ideal S1x1x2048x2048 .f32) : FVec Ideal S1x1x2048x2048 .f32 :=
  select (cmpf .olt (minimumf mask (broadcastInDim S1x1x2048x2048 ![2, 3] bcast_S2048x2048_S1x1x2048x2048_2_3
      (shapeCast S2048x2048 (broadcastInDim S2048x32x64 ![0, 1] bcast_S2048x32_S2048x32x64_0_1
        (shapeCast S2048x32 (broadcastInDim S32x64x32 ![0, 2] bcast_S32x32_S32x64x32_0_2 table) shapeCasts_S32x64x32_S2048x32))
        shapeCasts_S2048x32x64_S2048x2048)))
      (broadcastInDim S1x1x2048x2048 ![] bcast_S_S1x1x2048x2048 (constant S_ .f32 0x3F800000#32)))
    (broadcastInDim S1x1x2048x2048 ![] bcast_S_S1x1x2048x2048 (constant S_ .f32 0xFF800000#32))
    (broadcastInDim S1x1x2048x2048 ![] bcast_S_S1x1x2048x2048 (constant S_ .f32 0x00000000#32))

/-- The scores. -/
def scores (q k : FVec Ideal S1x16x2048x64 .f32) (b : FVec Ideal S1x1x2048x2048 .f32) : FVec Ideal S1x16x2048x2048 .f32 :=
  addf (Host.divf (Host.dotGeneral dot_S1x16x2048x64_S1x16x2048x64_S1x16x2048x2048_3_3_2_2_01_01 none q k)
      (broadcastInDim S1x16x2048x2048 ![] bcast_S_S1x16x2048x2048 (Host.sqrt (constant S_ .f32 0x42800000#32))))
    (broadcastInDim S1x16x2048x2048 ![0, 1, 2, 3] bcast_S1x1x2048x2048_S1x16x2048x2048_0_1_2_3 b)

/-- The largest score of each row. -/
def rowMax (s : FVec Ideal S1x16x2048x2048 .f32) : FVec Ideal S1x16x2048 .f32 :=
  Host.reduce FloatOps.maximumf s (constant S_ .f32 0xFF800000#32) reducesTo_S1x16x2048x2048_S1x16x2048_d3 h_S_

/-- The larger of −∞ and that. -/
def maxima (r : FVec Ideal S1x16x2048 .f32) : FVec Ideal S1x16x2048 .f32 :=
  maximumf (broadcastInDim S1x16x2048 ![] bcast_S_S1x16x2048 (constant S_ .f32 0xFF800000#32)) r

/-- The exponentials of the scores less their row's largest. -/
def exps (s : FVec Ideal S1x16x2048x2048 .f32) (M : FVec Ideal S1x16x2048 .f32) : FVec Ideal S1x16x2048x2048 .f32 :=
  Host.exp (subf s (broadcastInDim S1x16x2048x2048 ![0, 1, 2, 3] bcast_S1x16x2048x1_S1x16x2048x2048_0_1_2_3
    (broadcastInDim S1x16x2048x1 ![0, 1, 2] bcast_S1x16x2048_S1x16x2048x1_0_1_2 M)))

/-- The values weighed by the exponentials' shares of their row's sum, the heads beside one another. -/
def result (v : FVec Ideal S1x16x2048x64 .f32) (e : FVec Ideal S1x16x2048x2048 .f32) : FVec Ideal S1x2048x1024 .f32 :=
  shapeCast S1x2048x1024 (transpose S1x2048x16x64 [0, 3, 1, 2]
    (Host.dotGeneral dot_S1x16x2048x64_S1x16x2048x2048_S1x16x64x2048_2_3_3_2_01_01 none v
      (Host.divf e (broadcastInDim S1x16x2048x2048 ![0, 1, 2, 3] bcast_S1x16x2048x1_S1x16x2048x2048_0_1_2_3
        (broadcastInDim S1x16x2048x1 ![0, 1, 2] bcast_S1x16x2048_S1x16x2048x1_0_1_2
          (Host.reduceAdd e (constant S_ .f32 0x00000000#32) reducesTo_S1x16x2048x2048_S1x16x2048_d3 h_S_)))))
    transposes_S1x16x64x2048_S1x2048x16x64_0_3_1_2) shapeCasts_S1x2048x16x64_S1x2048x1024

/-- The reference's result is these steps. -/
theorem res_eq (m : (ℓ : Loc nD τ sig) → Buf (Elt Ideal) ℓ) (c : Dev nD) (s : FVec Ideal S1x16x2048x2048 .f32)
    (hs : s = scores (m ((c.tc : Thread nD τ).loc main_arg0)) (m ((c.tc : Thread nD τ).loc main_arg1)) (bias (m ((c.tc : Thread nD τ).loc main_arg3)))) :
    Value.res_main_v30 m c = result (m ((c.tc : Thread nD τ).loc main_arg2)) (exps s (maxima (rowMax s))) := by
  subst hs
  rfl

theorem table_at (i b : Fin 32) : table (ix2 i b) = if allowed i b then (1 : EReal) else 0 := by
  have hi : S32x32.rowMajor (ix2 i b) = ⟨32 * i.val + b.val, by show _ < 32 * 32; omega⟩ :=
    Fin.ext ((Shape.rowMajor_val_two _).trans (by show i.val * 32 + b.val = 32 * i.val + b.val; omega))
  unfold table
  rw [hi, reference_word]
  split
  · exact Ideal.ofBits_one_f32
  · exact Ideal.ofBits_zero_f32

theorem neg_inf : Ideal.ofBits .f32 0xFF800000#32 = ⊥ := by simp [Ideal.ofBits, Ideal.ieee]

theorem sixty_four : Ideal.ofBits .f32 0x42800000#32 = ((64 : ℝ) : EReal) := by
  simp [Ideal.ofBits, Ideal.ieee, -EReal.coe_mul]; norm_num

/-- What is added to the scores: 0 at an allowed key, −∞ elsewhere. -/
theorem bias_at (mask : FVec Ideal S1x1x2048x2048 .f32) (hm : ∀ R T, 1 ≤ mask (ix4 0 0 R T)) (R T : Fin 2048) :
    bias mask (ix4 0 0 R T) = if allowed (blk R) (blk T) then (0 : EReal) else ⊥ := by
  have h1 := hm R T
  pointwise [bias, table_at, neg_inf]
  have hb : ∀ R : Fin 2048, (⟨R.val / 64, by omega⟩ : Fin 32) = blk R := fun _ => rfl
  rw [hb, hb]
  cases allowed (blk R) (blk T)
  · simp
  · simp [h1]

theorem scores_at (q k : FVec Ideal S1x16x2048x64 .f32) (b : FVec Ideal S1x1x2048x2048 .f32) (h : Fin 16) (R T : Fin 2048) :
    scores q k b (ix4 0 h R T) = Ideal.div (∑ d, q (ix4 0 h R d) * k (ix4 0 h T d)) (Ideal.sqrt ((64 : ℝ) : EReal)) + b (ix4 0 0 R T) := by
  pointwise [scores, sixty_four]

theorem rowMax_at (s : FVec Ideal S1x16x2048x2048 .f32) (h : Fin 16) (R : Fin 2048) :
    rowMax s (ix3 0 h R) = Finset.univ.fold max ⊥ fun T : Fin 2048 => s (ix4 0 h R T) := by
  have hr : S1x16x2048x2048.Reduces [3] S1x16x2048 := by decide
  have he : (constant (F := Ideal) S_ .f32 0xFF800000#32) (Shape.Idx.first h_S_) = ⊥ := neg_inf
  have hl : s ∘ hr.lift (ix3 0 h R) = fun T : Fin 2048 => s (ix4 0 h R T) := funext fun T => congrArg s (funext fun a => Fin.ext (by
    match a with
    | 0 => rfl
    | 1 => rfl
    | 2 => rfl
    | 3 => rfl))
  unfold rowMax
  rw [Host.reduce_eq_fold_single FloatOps.maximumf s _ _ hr h_S_, he, hl]
  rfl

theorem maxima_at (r : FVec Ideal S1x16x2048 .f32) (h : Fin 16) (R : Fin 2048) : maxima r (ix3 0 h R) = r (ix3 0 h R) := by
  pointwise [maxima, neg_inf]
  exact bot_sup_eq _

theorem exps_at (s : FVec Ideal S1x16x2048x2048 .f32) (M : FVec Ideal S1x16x2048 .f32) (h : Fin 16) (R T : Fin 2048) :
    exps s M (ix4 0 h R T) = Ideal.exp (s (ix4 0 h R T) - M (ix3 0 h R)) := by
  pointwise [exps]

theorem result_at (v : FVec Ideal S1x16x2048x64 .f32) (e : FVec Ideal S1x16x2048x2048 .f32) (R : Fin 2048) (C : Fin 1024) :
    result v e (ix3 0 R C) = ∑ T, v (ix4 0 ⟨C.val / 64, by omega⟩ T ⟨C.val % 64, by omega⟩)
      * Ideal.div (e (ix4 0 ⟨C.val / 64, by omega⟩ R T)) (∑ T, e (ix4 0 ⟨C.val / 64, by omega⟩ R T)) := by
  pointwise [result]

section

variable (q k : FVec Ideal S1x16x2048x64 .f32) (mask : FVec Ideal S1x1x2048x2048 .f32) (q' k' : Fin 16 → Fin 2048 → Fin 64 → ℝ)
  (hq : ∀ h R d, q (ix4 0 h R d) = ((q' h R d : ℝ) : EReal)) (hk : ∀ h R d, k (ix4 0 h R d) = ((k' h R d : ℝ) : EReal))
  (hm : ∀ R T, 1 ≤ mask (ix4 0 0 R T))

include hq hk hm in
/-- A score: the real one at an allowed key, −∞ elsewhere. -/
theorem scores_value (h : Fin 16) (R T : Fin 2048) :
    scores q k (bias mask) (ix4 0 h R T) = if allowed (blk R) (blk T) then ((score (q' h R) (k' h T) : ℝ) : EReal) else ⊥ := by
  rw [scores_at, bias_at mask hm]
  simp only [hq, hk]
  rw [reference_score]
  split
  · exact add_zero _
  · exact EReal.add_bot _

include hq hk hm in
/-- A row's largest score is a real: every row has an allowed key. -/
theorem maxima_real (h : Fin 16) (R : Fin 2048) : ∃ M : ℝ, maxima (rowMax (scores q k (bias mask))) (ix3 0 h R) = (M : EReal) := by
  have hs := scores_value q k mask q' k' hq hk hm
  rw [maxima_at, rowMax_at]
  refine exists_real (bot_lt_fold_max _ _ 0 (Finset.mem_univ _) ?_) (fold_max_lt_top _ _ fun T _ => ?_)
  · rw [hs, show blk 0 = 0 from rfl, if_pos (allowed_zero (blk R))]
    exact EReal.bot_lt_coe _
  · rw [hs]
    split
    · exact EReal.coe_lt_top _
    · exact bot_lt_top

include hq hk hm in
/-- The exponentials are the weights. -/
theorem exps_value (h : Fin 16) (R T : Fin 2048) (M : ℝ) (hM : maxima (rowMax (scores q k (bias mask))) (ix3 0 h R) = (M : EReal)) :
    exps (scores q k (bias mask)) (maxima (rowMax (scores q k (bias mask)))) (ix4 0 h R T)
      = ((weight (fun T => allowed (blk R) (blk T)) (fun T => score (q' h R) (k' h T)) M T : ℝ) : EReal) := by
  rw [exps_at, hM, scores_value q k mask q' k' hq hk hm]
  unfold weight
  split
  · rw [← EReal.coe_sub, Ideal.exp_coe]
  · rw [show (⊥ : EReal) - (M : EReal) = ⊥ from EReal.bot_sub _, Ideal.exp_bot, EReal.coe_zero]

end

/-- The reference's result. -/
theorem final (m : (ℓ : Loc nD τ sig) → Buf (Elt Ideal) ℓ) (c : Dev nD) (q' k' : Fin 16 → Fin 2048 → Fin 64 → ℝ)
    (hq : ∀ h R d, m ((c.tc : Thread nD τ).loc main_arg0) (ix4 0 h R d) = ((q' h R d : ℝ) : EReal))
    (hk : ∀ h R d, m ((c.tc : Thread nD τ).loc main_arg1) (ix4 0 h R d) = ((k' h R d : ℝ) : EReal))
    (hm : ∀ R T, (1 : EReal) ≤ m ((c.tc : Thread nD τ).loc main_arg3) (ix4 0 0 R T)) :
    ∃ M : Fin 16 → Fin 2048 → ℝ, Value.res_main_v30 m c = beside fun h R d =>
      attended (q' h) (k' h) (fun T d => m ((c.tc : Thread nD τ).loc main_arg2) (ix4 0 h T d)) (M h R) R d := by
  choose M hM using maxima_real _ _ _ q' k' hq hk hm
  refine ⟨M, ?_⟩
  rw [res_eq m c _ rfl]
  funext i
  obtain ⟨z, R, C, rfl⟩ : ∃ (z : Fin 1) (R : Fin 2048) (C : Fin 1024), i = ix3 z R C := ⟨i 0, i 1, i 2, by funext a; fin_cases a <;> rfl⟩
  obtain rfl : z = 0 := Subsingleton.elim _ _
  rw [result_at]
  simp only [exps_value _ _ _ q' k' hq hk hm _ _ _ _ (hM _ _)]
  refine Eq.trans ?_ (beside_at _ R ⟨C.val / 64, by omega⟩ ⟨C.val % 64, by omega⟩ (ix3 0 R C) rfl
    (by show C.val = 64 * (C.val / 64) + C.val % 64; omega)).symm
  rfl

end Cert.Ref

end
-- ==== Proof.Claim.lean ====
/- The value claim: the precondition read entry by entry, and the two results compared. -/
module

public import proofs.«01_k».proof.Defs
public import proofs.«01_k».proof.Proof.Array
public import proofs.«01_k».proof.Proof.Ref
public import proofs.«01_k».proof.Proof.Gen.KernelIdeal.Value
public import proofs.«01_k».proof.Proof.Gen.ReferenceIdeal.Run
public import proofs.«01_k».proof.Proof.Gen.Pre_finite_unmasked
public import Idealize.ShloMosaic.Lib.ReduceAll

@[expose] public section

set_option maxRecDepth 16384

noncomputable section

namespace Cert.Proof

open Idealize.ShloMosaic Idealize.ShloMosaic.TcCoe Idealize.SL.Sem
open Cert.Pre_finite_unmasked (S1x16x2048x64 S1x1x2048x2048 S_)
open Cert.Pre_finite_unmasked.Facts

/-- A scalar has one index. -/
instance : Subsingleton S_.Idx := ⟨fun a b => funext fun i => i.elim0⟩

/-- Two bits whose conjunction is 1 are both 1. -/
theorem both_one (a b : BitVec 1) : a &&& b = 1#1 → a = 1#1 ∧ b = 1#1 := by
  revert a b
  decide

/-- The infinity the precondition compares with. -/
theorem top_word : Ideal.ofBits .f32 0x7F800000#32 = (⊤ : EReal) := by simp [Ideal.ofBits, Ideal.ieee]

/-- An extended real of absolute value below ⊤ is a real. -/
theorem real_of_abs_lt {x : EReal} (h : max x (-x) < ⊤) : ∃ r : ℝ, x = (r : EReal) := by
  refine Softmax.exists_real (bot_lt_iff_ne_bot.2 ?_) ((le_max_left _ _).trans_lt h)
  rintro rfl
  simp at h

section

variable [Cert.Pre_finite_unmasked.Facts]

/-- Every entry's absolute value compares below infinity: every entry is a real. -/
theorem all_real (x : FVec Ideal S1x16x2048x64 .f32) (j : S_.Idx)
    (e : Host.reduce IntOp.andi (cmpf .olt (Host.absf x) (broadcastInDim S1x16x2048x64 ![] bcast_S_S1x16x2048x64 (constant S_ .f32 0x7F800000#32)))
      (constantI S_ 1 1#1) reducesTo_S1x16x2048x64_S_d0_1_2_3 h_S_ j = 1#1) (i : S1x16x2048x64.Idx) : ∃ r : ℝ, x i = (r : EReal) := by
  have h : Ideal.cmp .olt (max (x i) (-(x i))) (Ideal.ofBits .f32 0x7F800000#32) = 1#1 := Host.reduce_andi_all _ _ _ _ j e i
  rw [top_word] at h
  exact real_of_abs_lt ((Ideal.cmp_olt_eq_one _ _).1 h)

/-- Every entry compares at least 1. -/
theorem all_unmasked (x : FVec Ideal S1x1x2048x2048 .f32) (j : S_.Idx)
    (e : Host.reduce IntOp.andi (cmpf .oge x (broadcastInDim S1x1x2048x2048 ![] bcast_S_S1x1x2048x2048 (constant S_ .f32 0x3F800000#32)))
      (constantI S_ 1 1#1) reducesTo_S1x1x2048x2048_S_d0_1_2_3 h_S_ j = 1#1) (i : S1x1x2048x2048.Idx) : (1 : EReal) ≤ x i := by
  have h : Ideal.cmp .oge (x i) (Ideal.ofBits .f32 0x3F800000#32) = 1#1 := Host.reduce_andi_all _ _ _ _ j e i
  rw [Ideal.ofBits_one_f32] at h
  exact (Ideal.cmp_oge_eq_one _ _).1 h

/-- The precondition, entry by entry. -/
theorem pre_entries (q k v : FVec Ideal S1x16x2048x64 .f32) (mask : FVec Ideal S1x1x2048x2048 .f32) (j : S_.Idx)
    (e : Cert.Pre_finite_unmasked.fn (F := Ideal) q k v mask j = 1#1) :
    (∀ i, ∃ r : ℝ, q i = (r : EReal)) ∧ (∀ i, ∃ r : ℝ, k i = (r : EReal)) ∧ ∀ i, (1 : EReal) ≤ mask i := by
  obtain ⟨h, hm⟩ := both_one _ _ e
  obtain ⟨hq, hk⟩ := both_one _ _ h
  exact ⟨all_real q j hq, all_real k j hk, all_unmasked mask j hm⟩

end

/-- The value claim: from finite queries and keys and a mask masking nothing, the kernel and the reference end with equal results. -/
theorem algebraic : Cert.algebraic_KernelIdeal_ReferenceIdeal_pre_finite_unmasked := by
  intro m g m' g' hpre hargs
  have hval : ∀ c : Dev Cert.KernelIdeal.nD, Cert.ReferenceIdeal.Value.res_main_v30 m' c = (Cert.KernelIdeal.Gen.dats m 0 c).arrAt 4 Cert.KernelIdeal.cfg0.N := by
    intro c
    obtain ⟨hq, hk, hm⟩ := pre_entries _ _ _ _ ix0 (congrFun (hpre c) ix0)
    obtain ⟨a0, a1, a2, a3⟩ := hargs c
    choose q' hq' using fun (h : Fin 16) (R : Fin 2048) (d : Fin 64) => hq (ix4 0 h R d)
    choose k' hk' using fun (h : Fin 16) (R : Fin 2048) (d : Fin 64) => hk (ix4 0 h R d)
    obtain ⟨M, hM⟩ := Cert.Ref.final m' c q' k' (fun h R d => (congrFun a0 _).trans (hq' h R d))
      (fun h R d => (congrFun a1 _).trans (hk' h R d)) (fun R T => (hm _).trans_eq (congrFun a3 _).symm)
    rw [hM, Cert.Head.final m c q' k' hq' hk' M, a2]
  exact ⟨fun c => Cert.ReferenceIdeal.Value.res_main_v30 m' c,
    (θ_run Cert.KernelIdeal.defs _ _).mono (fun r h c => ⟨(h c).1.trans (hval c).symm, (h c).2⟩) (Cert.KernelIdeal.Value.run_blocks m g),
    Cert.ReferenceIdeal.Value.run m' g'⟩

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite_unmasked
public import proofs.«01_k».proof.Proof.Frames
public import proofs.«01_k».proof.Proof.Claim

@[expose] public section

noncomputable section

namespace Cert.Proof

/-- Everything the certificate claims. -/
theorem claim : Cert.Claim :=
  ⟨Cert.Kernel.Gen.facts, Cert.KernelIdeal.Gen.facts, Cert.ReferenceIdeal.Gen.facts, Cert.Pre_finite_unmasked.Gen.facts,
    frame_kernel, frame_kernelIdeal, fun m g _ => frame_kernelIdeal m g trivial, frame_referenceIdeal,
    fun m g _ => frame_referenceIdeal m g trivial, preserves, algebraic⟩

end Cert.Proof

end
